-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_ids_in_range_row_zero [hPre_ids_in_range_row_zero : Cert.Pre_ids_in_range_row_zero.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range_row_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range_row_zero [hPre_ids_in_range_row_zero : Cert.Pre_ids_in_range_row_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range_row_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ids_in_range_row_zero [hKernelIdeal : Cert.KernelIdeal.Facts] [hPre_ids_in_range_row_zero : Cert.Pre_ids_in_range_row_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range_row_zero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ids_in_range_row_zero [hReferenceIdeal : Cert.ReferenceIdeal.Facts] [hPre_ids_in_range_row_zero : Cert.Pre_ids_in_range_row_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range_row_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ids_in_range_row_zero [hKernelIdeal : Cert.KernelIdeal.Facts] [hReferenceIdeal : Cert.ReferenceIdeal.Facts] [hPre_ids_in_range_row_zero : Cert.Pre_ids_in_range_row_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range_row_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_in_range_row_zero : Cert.Pre_ids_in_range_row_zero.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_in_range_row_zero (hKernelIdeal := hKernelIdeal) (hPre_ids_in_range_row_zero := hPre_ids_in_range_row_zero)
    ∧ quiescent_ReferenceIdeal (hReferenceIdeal := hReferenceIdeal)
    ∧ quiescent_ReferenceIdeal_pre_ids_in_range_row_zero (hReferenceIdeal := hReferenceIdeal) (hPre_ids_in_range_row_zero := hPre_ids_in_range_row_zero)
    ∧ preserves_Kernel_KernelIdeal
    ∧ algebraic_KernelIdeal_ReferenceIdeal_pre_ids_in_range_row_zero (hKernelIdeal := hKernelIdeal) (hReferenceIdeal := hReferenceIdeal) (hPre_ids_in_range_row_zero := hPre_ids_in_range_row_zero)
-- ==== Pre_ids_in_range.lean ====
abbrev S1024x50 : Shape := ⟨2, ![1024, 50]⟩
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x100000 : Shape := ⟨2, ![256, 100000]⟩
abbrev S100000 : Shape := ⟨1, ![100000]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S100000x128 .f32) (main_arg2 : FVec F S128x256 .f32) (main_arg3 : FVec F S256 .f32) (main_arg4 : FVec F S256x256 .f32) (main_arg5 : FVec F S256 .f32) (main_arg6 : FVec F S256x1 .f32) (main_arg7 : FVec F S1 .f32) (main_arg8 : FVec F S256x100000 .f32) (main_arg9 : FVec F S100000 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Pre_ids_in_range_row_zero.lean ====
abbrev S1024x50 : Shape := ⟨2, ![1024, 50]⟩
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x100000 : Shape := ⟨2, ![256, 100000]⟩
abbrev S100000 : Shape := ⟨1, ![100000]⟩
abbrev S_ : Shape := ⟨0, ![]⟩
abbrev S1x128 : Shape := ⟨2, ![1, 128]⟩
abbrev S128 : Shape := ⟨1, ![128]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel
  slices_S100000x128_S1x128_0_0 : S100000x128.Slices ![0, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn {F : FTy → Type} [FloatOps F] (main_arg0 : IVec S1024x50 32) (main_arg1 : FVec F S100000x128 .f32) (main_arg2 : FVec F S128x256 .f32) (main_arg3 : FVec F S256 .f32) (main_arg4 : FVec F S256x256 .f32) (main_arg5 : FVec F S256 .f32) (main_arg6 : FVec F S256x1 .f32) (main_arg7 : FVec F S1 .f32) (main_arg8 : FVec F S256x100000 .f32) (main_arg9 : FVec F S100000 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 100000#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  let main_v6 : FVec F S1x128 .f32 := (extractStridedSlice S1x128 ![0, 0] · slices_S100000x128_S1x128_0_0) main_arg1
  let main_v7 : FVec F S128 .f32 := shapeCast S128 main_v6 shapeCasts_S1x128_S128
  let main_cst : FVec F S_ .f32 := constant S_ .f32 0x00000000#32
  let main_v8 : FVec F S128 .f32 := broadcastInDim S128 ![] bcast_S_S128 main_cst
  let main_v9 : IVec S128 1 := cmpf .oeq main_v7 main_v8
  let main_c_2 : IVec S_ 1 := constantI S_ 1 1#1
  let main_v10 : IVec S_ 1 := (fun x v => Host.reduce IntOp.andi x v reducesTo_S128_S_d0 h_S_) main_v9 main_c_2
  let main_v11 : IVec S_ 1 := andi main_v5 main_v10
  main_v11
-- ==== Kernel.lean ====
abbrev S1024x50 : Shape := ⟨2, ![1024, 50]⟩
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x100000 : Shape := ⟨2, ![256, 100000]⟩
abbrev S100000 : Shape := ⟨1, ![100000]⟩
abbrev S1024x128 : Shape := ⟨2, ![1024, 128]⟩
abbrev S32x50 : Shape := ⟨2, ![32, 50]⟩
abbrev S32x128 : Shape := ⟨2, ![32, 128]⟩
abbrev S50x128 : Shape := ⟨2, ![50, 128]⟩
abbrev S_ : Shape := ⟨0, ![]⟩
abbrev S1x50 : Shape := ⟨2, ![1, 50]⟩
abbrev S50 : Shape := ⟨1, ![50]⟩
abbrev S16 : Shape := ⟨1, ![16]⟩
abbrev S1x16 : Shape := ⟨2, ![1, 16]⟩
abbrev S1x256 : Shape := ⟨2, ![1, 256]⟩
abbrev S1x1 : Shape := ⟨2, ![1, 1]⟩
abbrev S1024x256 : Shape := ⟨2, ![1024, 256]⟩
abbrev S1024x1 : Shape := ⟨2, ![1024, 1]⟩
abbrev S1024 : Shape := ⟨1, ![1024]⟩
abbrev S1x100000 : Shape := ⟨2, ![1, 100000]⟩
abbrev S1024x100096 : Shape := ⟨2, ![1024, 100096]⟩
abbrev S256x1024 : Shape := ⟨2, ![256, 1024]⟩
abbrev S1x1024 : Shape := ⟨2, ![1, 1024]⟩
abbrev S1024x1024 : Shape := ⟨2, ![1024, 1024]⟩
abbrev S1024x99328 : Shape := ⟨2, ![1024, 99328]⟩

abbrev nBuf : Table → Nat
  | .hbm => 20
  | .local .tc .vmem => 19
  | .local .scVector .vmem => 6
  | _ => 0

abbrev bufTy : (tb : Table) → Fin (nBuf tb) → BufTy
  | .hbm, ⟨0, _⟩ => ⟨S1024x50, .i32⟩
  | .hbm, ⟨1, _⟩ => ⟨S100000x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x100000, .f32⟩
  | .hbm, ⟨9, _⟩ => ⟨S100000, .f32⟩
  | .hbm, ⟨10, _⟩ => ⟨S1024x128, .f32⟩
  | .hbm, ⟨11, _⟩ => ⟨S1x256, .f32⟩
  | .hbm, ⟨12, _⟩ => ⟨S1x256, .f32⟩
  | .hbm, ⟨13, _⟩ => ⟨S1x1, .f32⟩
  | .hbm, ⟨14, _⟩ => ⟨S1024x256, .f32⟩
  | .hbm, ⟨15, _⟩ => ⟨S1024x1, .f32⟩
  | .hbm, ⟨16, _⟩ => ⟨S1x100000, .f32⟩
  | .hbm, ⟨17, _⟩ => ⟨S1024x100096, .f32⟩
  | .hbm, ⟨18, _⟩ => ⟨S1024x99328, .f32⟩
  | .hbm, ⟨19, _⟩ => ⟨S1024, .f32⟩
  | .local .tc .vmem, ⟨0, _⟩ => ⟨S1024x50, .i32⟩
  | .local .tc .vmem, ⟨1, _⟩ => ⟨S1024x128, .f32⟩
  | .local .tc .vmem, ⟨2, _⟩ => ⟨S128x256, .f32⟩
  | .local .tc .vmem, ⟨3, _⟩ => ⟨S1x256, .f32⟩
  | .local .tc .vmem, ⟨4, _⟩ => ⟨S256x256, .f32⟩
  | .local .tc .vmem, ⟨5, _⟩ => ⟨S1x256, .f32⟩
  | .local .tc .vmem, ⟨6, _⟩ => ⟨S256x1, .f32⟩
  | .local .tc .vmem, ⟨7, _⟩ => ⟨S1x1, .f32⟩
  | .local .tc .vmem, ⟨8, _⟩ => ⟨S1024x256, .f32⟩
  | .local .tc .vmem, ⟨9, _⟩ => ⟨S1024x1, .f32⟩
  | .local .tc .vmem, ⟨10, _⟩ => ⟨S1024x256, .f32⟩
  | .local .tc .vmem, ⟨11, _⟩ => ⟨S256x1024, .f32⟩
  | .local .tc .vmem, ⟨12, _⟩ => ⟨S256x1024, .f32⟩
  | .local .tc .vmem, ⟨13, _⟩ => ⟨S1x1024, .f32⟩
  | .local .tc .vmem, ⟨14, _⟩ => ⟨S1x1024, .f32⟩
  | .local .tc .vmem, ⟨15, _⟩ => ⟨S1024x1024, .f32⟩
  | .local .tc .vmem, ⟨16, _⟩ => ⟨S1024x1024, .f32⟩
  | .local .tc .vmem, ⟨17, _⟩ => ⟨S1024x1024, .f32⟩
  | .local .tc .vmem, ⟨18, _⟩ => ⟨S1024x1024, .f32⟩
  | .local .scVector .vmem, ⟨0, _⟩ => ⟨S32x50, .i32⟩
  | .local .scVector .vmem, ⟨1, _⟩ => ⟨S32x128, .f32⟩
  | .local .scVector .vmem, ⟨2, _⟩ => ⟨S50x128, .f32⟩
  | .local .scVector .vmem, ⟨3, _⟩ => ⟨S50x128, .f32⟩
  | .local .scVector .vmem, ⟨4, _⟩ => ⟨S50x128, .f32⟩
  | .local .scVector .vmem, ⟨5, _⟩ => ⟨S50x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_arg0_scv : Ref sig .scVector := ⟨.hbm, 0, rfl⟩
abbrev main_arg1_scv : Ref sig .scVector := ⟨.hbm, 1, rfl⟩
abbrev main_v0_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_scratch0 : Ref sig .tc := ⟨.vmem, 15, rfl⟩
abbrev cc2_scratch1 : Ref sig .tc := ⟨.vmem, 16, rfl⟩
abbrev cc2_scratch2 : Ref sig .tc := ⟨.vmem, 17, rfl⟩
abbrev cc2_scratch3 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1111_r0 : BitVec 32 := 0#32
  ![v2.toNat, 0]
@[reducible] def k0_t1_loop : Scf.Loop 32 :=
  let c0_i32_24 : BitVec 32 := 0#32
  let c50_i32 : BitVec 32 := 50#32
  let v26 : BitVec 32 := Scalar.addi c0_i32_24 c50_i32
  let c1_i32_25 : BitVec 32 := 1#32
  ⟨c0_i32_24, v26, c1_i32_25⟩
def k0_off2 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1539 : Index := Scalar.indexCast arg15
  let c0_1111 : Index := 0#32
  ![v1539.toNat, 0]
def k0_off3 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1543 : Index := Scalar.indexCast arg15
  let c16_1112 : Index := 16#32
  ![v1543.toNat, 16]
def k0_off4 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1547 : Index := Scalar.indexCast arg15
  let c32_1113 : Index := 32#32
  ![v1547.toNat, 32]
def k0_off5 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1551 : Index := Scalar.indexCast arg15
  let c48_1114 : Index := 48#32
  ![v1551.toNat, 48]
def k0_off6 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1555 : Index := Scalar.indexCast arg15
  let c64_1115 : Index := 64#32
  ![v1555.toNat, 64]
def k0_off7 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1559 : Index := Scalar.indexCast arg15
  let c80_1116 : Index := 80#32
  ![v1559.toNat, 80]
def k0_off8 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1563 : Index := Scalar.indexCast arg15
  let c96_1117 : Index := 96#32
  ![v1563.toNat, 96]
def k0_off9 (k0_t1 : Fin k0_t1_loop.trips) : Fin 2 → Nat :=
  let c0_i32_24 : BitVec 32 := 0#32
  let c1_i32_25 : BitVec 32 := 1#32
  let arg15 : BitVec 32 := Scf.iv c0_i32_24 c1_i32_25 k0_t1
  let v1567 : Index := Scalar.indexCast arg15
  let c112_1118 : Index := 112#32
  ![v1567.toNat, 112]
@[reducible] def k0_t2_loop : Scf.Loop 32 :=
  let c0_i32_50 : BitVec 32 := 0#32
  let c50_i32_51 : BitVec 32 := 50#32
  let v74 : BitVec 32 := Scalar.addi c0_i32_50 c50_i32_51
  let c1_i32_52 : BitVec 32 := 1#32
  ⟨c0_i32_50, v74, c1_i32_52⟩
def k0_off10 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1539 : Index := Scalar.indexCast arg15
  let c0_1111 : Index := 0#32
  ![v1539.toNat, 0]
def k0_off11 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1543 : Index := Scalar.indexCast arg15
  let c16_1112 : Index := 16#32
  ![v1543.toNat, 16]
def k0_off12 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1547 : Index := Scalar.indexCast arg15
  let c32_1113 : Index := 32#32
  ![v1547.toNat, 32]
def k0_off13 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1551 : Index := Scalar.indexCast arg15
  let c48_1114 : Index := 48#32
  ![v1551.toNat, 48]
def k0_off14 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1555 : Index := Scalar.indexCast arg15
  let c64_1115 : Index := 64#32
  ![v1555.toNat, 64]
def k0_off15 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1559 : Index := Scalar.indexCast arg15
  let c80_1116 : Index := 80#32
  ![v1559.toNat, 80]
def k0_off16 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1563 : Index := Scalar.indexCast arg15
  let c96_1117 : Index := 96#32
  ![v1563.toNat, 96]
def k0_off17 (k0_t2 : Fin k0_t2_loop.trips) : Fin 2 → Nat :=
  let c0_i32_50 : BitVec 32 := 0#32
  let c1_i32_52 : BitVec 32 := 1#32
  let arg15 : BitVec 32 := Scf.iv c0_i32_50 c1_i32_52 k0_t2
  let v1567 : Index := Scalar.indexCast arg15
  let c112_1118 : Index := 112#32
  ![v1567.toNat, 112]
@[reducible] def k0_t3_loop : Scf.Loop 32 :=
  let c0_i32_85 : BitVec 32 := 0#32
  let c50_i32_86 : BitVec 32 := 50#32
  let v122 : BitVec 32 := Scalar.addi c0_i32_85 c50_i32_86
  let c1_i32_87 : BitVec 32 := 1#32
  ⟨c0_i32_85, v122, c1_i32_87⟩
def k0_off18 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1539 : Index := Scalar.indexCast arg15
  let c0_1111 : Index := 0#32
  ![v1539.toNat, 0]
def k0_off19 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1543 : Index := Scalar.indexCast arg15
  let c16_1112 : Index := 16#32
  ![v1543.toNat, 16]
def k0_off20 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1547 : Index := Scalar.indexCast arg15
  let c32_1113 : Index := 32#32
  ![v1547.toNat, 32]
def k0_off21 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1551 : Index := Scalar.indexCast arg15
  let c48_1114 : Index := 48#32
  ![v1551.toNat, 48]
def k0_off22 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1555 : Index := Scalar.indexCast arg15
  let c64_1115 : Index := 64#32
  ![v1555.toNat, 64]
def k0_off23 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1559 : Index := Scalar.indexCast arg15
  let c80_1116 : Index := 80#32
  ![v1559.toNat, 80]
def k0_off24 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1563 : Index := Scalar.indexCast arg15
  let c96_1117 : Index := 96#32
  ![v1563.toNat, 96]
def k0_off25 (k0_t3 : Fin k0_t3_loop.trips) : Fin 2 → Nat :=
  let c0_i32_85 : BitVec 32 := 0#32
  let c1_i32_87 : BitVec 32 := 1#32
  let arg15 : BitVec 32 := Scf.iv c0_i32_85 c1_i32_87 k0_t3
  let v1567 : Index := Scalar.indexCast arg15
  let c112_1118 : Index := 112#32
  ![v1567.toNat, 112]
@[reducible] def k0_t4_loop : Scf.Loop 32 :=
  let c0_i32_120 : BitVec 32 := 0#32
  let c50_i32_121 : BitVec 32 := 50#32
  let v170 : BitVec 32 := Scalar.addi c0_i32_120 c50_i32_121
  let c1_i32_122 : BitVec 32 := 1#32
  ⟨c0_i32_120, v170, c1_i32_122⟩
def k0_off26 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1539 : Index := Scalar.indexCast arg15
  let c0_1111 : Index := 0#32
  ![v1539.toNat, 0]
def k0_off27 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1543 : Index := Scalar.indexCast arg15
  let c16_1112 : Index := 16#32
  ![v1543.toNat, 16]
def k0_off28 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1547 : Index := Scalar.indexCast arg15
  let c32_1113 : Index := 32#32
  ![v1547.toNat, 32]
def k0_off29 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1551 : Index := Scalar.indexCast arg15
  let c48_1114 : Index := 48#32
  ![v1551.toNat, 48]
def k0_off30 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1555 : Index := Scalar.indexCast arg15
  let c64_1115 : Index := 64#32
  ![v1555.toNat, 64]
def k0_off31 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1559 : Index := Scalar.indexCast arg15
  let c80_1116 : Index := 80#32
  ![v1559.toNat, 80]
def k0_off32 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1563 : Index := Scalar.indexCast arg15
  let c96_1117 : Index := 96#32
  ![v1563.toNat, 96]
def k0_off33 (k0_t4 : Fin k0_t4_loop.trips) : Fin 2 → Nat :=
  let c0_i32_120 : BitVec 32 := 0#32
  let c1_i32_122 : BitVec 32 := 1#32
  let arg15 : BitVec 32 := Scf.iv c0_i32_120 c1_i32_122 k0_t4
  let v1567 : Index := Scalar.indexCast arg15
  let c112_1118 : Index := 112#32
  ![v1567.toNat, 112]
@[reducible] def k0_t5_loop : Scf.Loop 32 :=
  let c0_i32_155 : BitVec 32 := 0#32
  let c50_i32_156 : BitVec 32 := 50#32
  let v218 : BitVec 32 := Scalar.addi c0_i32_155 c50_i32_156
  let c1_i32_157 : BitVec 32 := 1#32
  ⟨c0_i32_155, v218, c1_i32_157⟩
def k0_off34 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1539 : Index := Scalar.indexCast arg15
  let c0_1111 : Index := 0#32
  ![v1539.toNat, 0]
def k0_off35 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1543 : Index := Scalar.indexCast arg15
  let c16_1112 : Index := 16#32
  ![v1543.toNat, 16]
def k0_off36 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1547 : Index := Scalar.indexCast arg15
  let c32_1113 : Index := 32#32
  ![v1547.toNat, 32]
def k0_off37 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1551 : Index := Scalar.indexCast arg15
  let c48_1114 : Index := 48#32
  ![v1551.toNat, 48]
def k0_off38 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1555 : Index := Scalar.indexCast arg15
  let c64_1115 : Index := 64#32
  ![v1555.toNat, 64]
def k0_off39 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1559 : Index := Scalar.indexCast arg15
  let c80_1116 : Index := 80#32
  ![v1559.toNat, 80]
def k0_off40 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1563 : Index := Scalar.indexCast arg15
  let c96_1117 : Index := 96#32
  ![v1563.toNat, 96]
def k0_off41 (k0_t5 : Fin k0_t5_loop.trips) : Fin 2 → Nat :=
  let c0_i32_155 : BitVec 32 := 0#32
  let c1_i32_157 : BitVec 32 := 1#32
  let arg15 : BitVec 32 := Scf.iv c0_i32_155 c1_i32_157 k0_t5
  let v1567 : Index := Scalar.indexCast arg15
  let c112_1118 : Index := 112#32
  ![v1567.toNat, 112]
@[reducible] def k0_t6_loop : Scf.Loop 32 :=
  let c0_i32_190 : BitVec 32 := 0#32
  let c50_i32_191 : BitVec 32 := 50#32
  let v266 : BitVec 32 := Scalar.addi c0_i32_190 c50_i32_191
  let c1_i32_192 : BitVec 32 := 1#32
  ⟨c0_i32_190, v266, c1_i32_192⟩
def k0_off42 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1539 : Index := Scalar.indexCast arg15
  let c0_1111 : Index := 0#32
  ![v1539.toNat, 0]
def k0_off43 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1543 : Index := Scalar.indexCast arg15
  let c16_1112 : Index := 16#32
  ![v1543.toNat, 16]
def k0_off44 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1547 : Index := Scalar.indexCast arg15
  let c32_1113 : Index := 32#32
  ![v1547.toNat, 32]
def k0_off45 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1551 : Index := Scalar.indexCast arg15
  let c48_1114 : Index := 48#32
  ![v1551.toNat, 48]
def k0_off46 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1555 : Index := Scalar.indexCast arg15
  let c64_1115 : Index := 64#32
  ![v1555.toNat, 64]
def k0_off47 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1559 : Index := Scalar.indexCast arg15
  let c80_1116 : Index := 80#32
  ![v1559.toNat, 80]
def k0_off48 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1563 : Index := Scalar.indexCast arg15
  let c96_1117 : Index := 96#32
  ![v1563.toNat, 96]
def k0_off49 (k0_t6 : Fin k0_t6_loop.trips) : Fin 2 → Nat :=
  let c0_i32_190 : BitVec 32 := 0#32
  let c1_i32_192 : BitVec 32 := 1#32
  let arg15 : BitVec 32 := Scf.iv c0_i32_190 c1_i32_192 k0_t6
  let v1567 : Index := Scalar.indexCast arg15
  let c112_1118 : Index := 112#32
  ![v1567.toNat, 112]
@[reducible] def k0_t7_loop : Scf.Loop 32 :=
  let c0_i32_225 : BitVec 32 := 0#32
  let c50_i32_226 : BitVec 32 := 50#32
  let v314 : BitVec 32 := Scalar.addi c0_i32_225 c50_i32_226
  let c1_i32_227 : BitVec 32 := 1#32
  ⟨c0_i32_225, v314, c1_i32_227⟩
def k0_off50 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1539 : Index := Scalar.indexCast arg15
  let c0_1111 : Index := 0#32
  ![v1539.toNat, 0]
def k0_off51 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1543 : Index := Scalar.indexCast arg15
  let c16_1112 : Index := 16#32
  ![v1543.toNat, 16]
def k0_off52 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1547 : Index := Scalar.indexCast arg15
  let c32_1113 : Index := 32#32
  ![v1547.toNat, 32]
def k0_off53 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1551 : Index := Scalar.indexCast arg15
  let c48_1114 : Index := 48#32
  ![v1551.toNat, 48]
def k0_off54 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1555 : Index := Scalar.indexCast arg15
  let c64_1115 : Index := 64#32
  ![v1555.toNat, 64]
def k0_off55 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1559 : Index := Scalar.indexCast arg15
  let c80_1116 : Index := 80#32
  ![v1559.toNat, 80]
def k0_off56 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1563 : Index := Scalar.indexCast arg15
  let c96_1117 : Index := 96#32
  ![v1563.toNat, 96]
def k0_off57 (k0_t7 : Fin k0_t7_loop.trips) : Fin 2 → Nat :=
  let c0_i32_225 : BitVec 32 := 0#32
  let c1_i32_227 : BitVec 32 := 1#32
  let arg15 : BitVec 32 := Scf.iv c0_i32_225 c1_i32_227 k0_t7
  let v1567 : Index := Scalar.indexCast arg15
  let c112_1118 : Index := 112#32
  ![v1567.toNat, 112]
@[reducible] def k0_t8_loop : Scf.Loop 32 :=
  let c0_i32_260 : BitVec 32 := 0#32
  let c50_i32_261 : BitVec 32 := 50#32
  let v362 : BitVec 32 := Scalar.addi c0_i32_260 c50_i32_261
  let c1_i32_262 : BitVec 32 := 1#32
  ⟨c0_i32_260, v362, c1_i32_262⟩
def k0_off58 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1539 : Index := Scalar.indexCast arg15
  let c0_1111 : Index := 0#32
  ![v1539.toNat, 0]
def k0_off59 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1543 : Index := Scalar.indexCast arg15
  let c16_1112 : Index := 16#32
  ![v1543.toNat, 16]
def k0_off60 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1547 : Index := Scalar.indexCast arg15
  let c32_1113 : Index := 32#32
  ![v1547.toNat, 32]
def k0_off61 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1551 : Index := Scalar.indexCast arg15
  let c48_1114 : Index := 48#32
  ![v1551.toNat, 48]
def k0_off62 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1555 : Index := Scalar.indexCast arg15
  let c64_1115 : Index := 64#32
  ![v1555.toNat, 64]
def k0_off63 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1559 : Index := Scalar.indexCast arg15
  let c80_1116 : Index := 80#32
  ![v1559.toNat, 80]
def k0_off64 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1563 : Index := Scalar.indexCast arg15
  let c96_1117 : Index := 96#32
  ![v1563.toNat, 96]
def k0_off65 (k0_t8 : Fin k0_t8_loop.trips) : Fin 2 → Nat :=
  let c0_i32_260 : BitVec 32 := 0#32
  let c1_i32_262 : BitVec 32 := 1#32
  let arg15 : BitVec 32 := Scf.iv c0_i32_260 c1_i32_262 k0_t8
  let v1567 : Index := Scalar.indexCast arg15
  let c112_1118 : Index := 112#32
  ![v1567.toNat, 112]
@[reducible] def k0_t9_loop : Scf.Loop 32 :=
  let c0_i32_295 : BitVec 32 := 0#32
  let c50_i32_296 : BitVec 32 := 50#32
  let v410 : BitVec 32 := Scalar.addi c0_i32_295 c50_i32_296
  let c1_i32_297 : BitVec 32 := 1#32
  ⟨c0_i32_295, v410, c1_i32_297⟩
def k0_off66 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1539 : Index := Scalar.indexCast arg15
  let c0_1111 : Index := 0#32
  ![v1539.toNat, 0]
def k0_off67 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1543 : Index := Scalar.indexCast arg15
  let c16_1112 : Index := 16#32
  ![v1543.toNat, 16]
def k0_off68 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1547 : Index := Scalar.indexCast arg15
  let c32_1113 : Index := 32#32
  ![v1547.toNat, 32]
def k0_off69 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1551 : Index := Scalar.indexCast arg15
  let c48_1114 : Index := 48#32
  ![v1551.toNat, 48]
def k0_off70 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1555 : Index := Scalar.indexCast arg15
  let c64_1115 : Index := 64#32
  ![v1555.toNat, 64]
def k0_off71 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1559 : Index := Scalar.indexCast arg15
  let c80_1116 : Index := 80#32
  ![v1559.toNat, 80]
def k0_off72 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1563 : Index := Scalar.indexCast arg15
  let c96_1117 : Index := 96#32
  ![v1563.toNat, 96]
def k0_off73 (k0_t9 : Fin k0_t9_loop.trips) : Fin 2 → Nat :=
  let c0_i32_295 : BitVec 32 := 0#32
  let c1_i32_297 : BitVec 32 := 1#32
  let arg15 : BitVec 32 := Scf.iv c0_i32_295 c1_i32_297 k0_t9
  let v1567 : Index := Scalar.indexCast arg15
  let c112_1118 : Index := 112#32
  ![v1567.toNat, 112]
@[reducible] def k0_t10_loop : Scf.Loop 32 :=
  let c0_i32_330 : BitVec 32 := 0#32
  let c50_i32_331 : BitVec 32 := 50#32
  let v458 : BitVec 32 := Scalar.addi c0_i32_330 c50_i32_331
  let c1_i32_332 : BitVec 32 := 1#32
  ⟨c0_i32_330, v458, c1_i32_332⟩
def k0_off74 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1539 : Index := Scalar.indexCast arg15
  let c0_1111 : Index := 0#32
  ![v1539.toNat, 0]
def k0_off75 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1543 : Index := Scalar.indexCast arg15
  let c16_1112 : Index := 16#32
  ![v1543.toNat, 16]
def k0_off76 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1547 : Index := Scalar.indexCast arg15
  let c32_1113 : Index := 32#32
  ![v1547.toNat, 32]
def k0_off77 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1551 : Index := Scalar.indexCast arg15
  let c48_1114 : Index := 48#32
  ![v1551.toNat, 48]
def k0_off78 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1555 : Index := Scalar.indexCast arg15
  let c64_1115 : Index := 64#32
  ![v1555.toNat, 64]
def k0_off79 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1559 : Index := Scalar.indexCast arg15
  let c80_1116 : Index := 80#32
  ![v1559.toNat, 80]
def k0_off80 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1563 : Index := Scalar.indexCast arg15
  let c96_1117 : Index := 96#32
  ![v1563.toNat, 96]
def k0_off81 (k0_t10 : Fin k0_t10_loop.trips) : Fin 2 → Nat :=
  let c0_i32_330 : BitVec 32 := 0#32
  let c1_i32_332 : BitVec 32 := 1#32
  let arg15 : BitVec 32 := Scf.iv c0_i32_330 c1_i32_332 k0_t10
  let v1567 : Index := Scalar.indexCast arg15
  let c112_1118 : Index := 112#32
  ![v1567.toNat, 112]
@[reducible] def k0_t11_loop : Scf.Loop 32 :=
  let c0_i32_365 : BitVec 32 := 0#32
  let c50_i32_366 : BitVec 32 := 50#32
  let v506 : BitVec 32 := Scalar.addi c0_i32_365 c50_i32_366
  let c1_i32_367 : BitVec 32 := 1#32
  ⟨c0_i32_365, v506, c1_i32_367⟩
def k0_off82 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1539 : Index := Scalar.indexCast arg15
  let c0_1111 : Index := 0#32
  ![v1539.toNat, 0]
def k0_off83 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1543 : Index := Scalar.indexCast arg15
  let c16_1112 : Index := 16#32
  ![v1543.toNat, 16]
def k0_off84 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1547 : Index := Scalar.indexCast arg15
  let c32_1113 : Index := 32#32
  ![v1547.toNat, 32]
def k0_off85 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1551 : Index := Scalar.indexCast arg15
  let c48_1114 : Index := 48#32
  ![v1551.toNat, 48]
def k0_off86 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1555 : Index := Scalar.indexCast arg15
  let c64_1115 : Index := 64#32
  ![v1555.toNat, 64]
def k0_off87 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1559 : Index := Scalar.indexCast arg15
  let c80_1116 : Index := 80#32
  ![v1559.toNat, 80]
def k0_off88 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1563 : Index := Scalar.indexCast arg15
  let c96_1117 : Index := 96#32
  ![v1563.toNat, 96]
def k0_off89 (k0_t11 : Fin k0_t11_loop.trips) : Fin 2 → Nat :=
  let c0_i32_365 : BitVec 32 := 0#32
  let c1_i32_367 : BitVec 32 := 1#32
  let arg15 : BitVec 32 := Scf.iv c0_i32_365 c1_i32_367 k0_t11
  let v1567 : Index := Scalar.indexCast arg15
  let c112_1118 : Index := 112#32
  ![v1567.toNat, 112]
@[reducible] def k0_t12_loop : Scf.Loop 32 :=
  let c0_i32_400 : BitVec 32 := 0#32
  let c50_i32_401 : BitVec 32 := 50#32
  let v554 : BitVec 32 := Scalar.addi c0_i32_400 c50_i32_401
  let c1_i32_402 : BitVec 32 := 1#32
  ⟨c0_i32_400, v554, c1_i32_402⟩
def k0_off90 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1539 : Index := Scalar.indexCast arg15
  let c0_1111 : Index := 0#32
  ![v1539.toNat, 0]
def k0_off91 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1543 : Index := Scalar.indexCast arg15
  let c16_1112 : Index := 16#32
  ![v1543.toNat, 16]
def k0_off92 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1547 : Index := Scalar.indexCast arg15
  let c32_1113 : Index := 32#32
  ![v1547.toNat, 32]
def k0_off93 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1551 : Index := Scalar.indexCast arg15
  let c48_1114 : Index := 48#32
  ![v1551.toNat, 48]
def k0_off94 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1555 : Index := Scalar.indexCast arg15
  let c64_1115 : Index := 64#32
  ![v1555.toNat, 64]
def k0_off95 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1559 : Index := Scalar.indexCast arg15
  let c80_1116 : Index := 80#32
  ![v1559.toNat, 80]
def k0_off96 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1563 : Index := Scalar.indexCast arg15
  let c96_1117 : Index := 96#32
  ![v1563.toNat, 96]
def k0_off97 (k0_t12 : Fin k0_t12_loop.trips) : Fin 2 → Nat :=
  let c0_i32_400 : BitVec 32 := 0#32
  let c1_i32_402 : BitVec 32 := 1#32
  let arg15 : BitVec 32 := Scf.iv c0_i32_400 c1_i32_402 k0_t12
  let v1567 : Index := Scalar.indexCast arg15
  let c112_1118 : Index := 112#32
  ![v1567.toNat, 112]
@[reducible] def k0_t13_loop : Scf.Loop 32 :=
  let c0_i32_435 : BitVec 32 := 0#32
  let c50_i32_436 : BitVec 32 := 50#32
  let v602 : BitVec 32 := Scalar.addi c0_i32_435 c50_i32_436
  let c1_i32_437 : BitVec 32 := 1#32
  ⟨c0_i32_435, v602, c1_i32_437⟩
def k0_off98 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1539 : Index := Scalar.indexCast arg15
  let c0_1111 : Index := 0#32
  ![v1539.toNat, 0]
def k0_off99 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1543 : Index := Scalar.indexCast arg15
  let c16_1112 : Index := 16#32
  ![v1543.toNat, 16]
def k0_off100 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1547 : Index := Scalar.indexCast arg15
  let c32_1113 : Index := 32#32
  ![v1547.toNat, 32]
def k0_off101 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1551 : Index := Scalar.indexCast arg15
  let c48_1114 : Index := 48#32
  ![v1551.toNat, 48]
def k0_off102 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1555 : Index := Scalar.indexCast arg15
  let c64_1115 : Index := 64#32
  ![v1555.toNat, 64]
def k0_off103 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1559 : Index := Scalar.indexCast arg15
  let c80_1116 : Index := 80#32
  ![v1559.toNat, 80]
def k0_off104 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1563 : Index := Scalar.indexCast arg15
  let c96_1117 : Index := 96#32
  ![v1563.toNat, 96]
def k0_off105 (k0_t13 : Fin k0_t13_loop.trips) : Fin 2 → Nat :=
  let c0_i32_435 : BitVec 32 := 0#32
  let c1_i32_437 : BitVec 32 := 1#32
  let arg15 : BitVec 32 := Scf.iv c0_i32_435 c1_i32_437 k0_t13
  let v1567 : Index := Scalar.indexCast arg15
  let c112_1118 : Index := 112#32
  ![v1567.toNat, 112]
@[reducible] def k0_t14_loop : Scf.Loop 32 :=
  let c0_i32_470 : BitVec 32 := 0#32
  let c50_i32_471 : BitVec 32 := 50#32
  let v650 : BitVec 32 := Scalar.addi c0_i32_470 c50_i32_471
  let c1_i32_472 : BitVec 32 := 1#32
  ⟨c0_i32_470, v650, c1_i32_472⟩
def k0_off106 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1539 : Index := Scalar.indexCast arg15
  let c0_1111 : Index := 0#32
  ![v1539.toNat, 0]
def k0_off107 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1543 : Index := Scalar.indexCast arg15
  let c16_1112 : Index := 16#32
  ![v1543.toNat, 16]
def k0_off108 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1547 : Index := Scalar.indexCast arg15
  let c32_1113 : Index := 32#32
  ![v1547.toNat, 32]
def k0_off109 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1551 : Index := Scalar.indexCast arg15
  let c48_1114 : Index := 48#32
  ![v1551.toNat, 48]
def k0_off110 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1555 : Index := Scalar.indexCast arg15
  let c64_1115 : Index := 64#32
  ![v1555.toNat, 64]
def k0_off111 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1559 : Index := Scalar.indexCast arg15
  let c80_1116 : Index := 80#32
  ![v1559.toNat, 80]
def k0_off112 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1563 : Index := Scalar.indexCast arg15
  let c96_1117 : Index := 96#32
  ![v1563.toNat, 96]
def k0_off113 (k0_t14 : Fin k0_t14_loop.trips) : Fin 2 → Nat :=
  let c0_i32_470 : BitVec 32 := 0#32
  let c1_i32_472 : BitVec 32 := 1#32
  let arg15 : BitVec 32 := Scf.iv c0_i32_470 c1_i32_472 k0_t14
  let v1567 : Index := Scalar.indexCast arg15
  let c112_1118 : Index := 112#32
  ![v1567.toNat, 112]
@[reducible] def k0_t15_loop : Scf.Loop 32 :=
  let c0_i32_505 : BitVec 32 := 0#32
  let c50_i32_506 : BitVec 32 := 50#32
  let v698 : BitVec 32 := Scalar.addi c0_i32_505 c50_i32_506
  let c1_i32_507 : BitVec 32 := 1#32
  ⟨c0_i32_505, v698, c1_i32_507⟩
def k0_off114 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1539 : Index := Scalar.indexCast arg15
  let c0_1111 : Index := 0#32
  ![v1539.toNat, 0]
def k0_off115 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1543 : Index := Scalar.indexCast arg15
  let c16_1112 : Index := 16#32
  ![v1543.toNat, 16]
def k0_off116 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1547 : Index := Scalar.indexCast arg15
  let c32_1113 : Index := 32#32
  ![v1547.toNat, 32]
def k0_off117 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1551 : Index := Scalar.indexCast arg15
  let c48_1114 : Index := 48#32
  ![v1551.toNat, 48]
def k0_off118 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1555 : Index := Scalar.indexCast arg15
  let c64_1115 : Index := 64#32
  ![v1555.toNat, 64]
def k0_off119 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1559 : Index := Scalar.indexCast arg15
  let c80_1116 : Index := 80#32
  ![v1559.toNat, 80]
def k0_off120 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1563 : Index := Scalar.indexCast arg15
  let c96_1117 : Index := 96#32
  ![v1563.toNat, 96]
def k0_off121 (k0_t15 : Fin k0_t15_loop.trips) : Fin 2 → Nat :=
  let c0_i32_505 : BitVec 32 := 0#32
  let c1_i32_507 : BitVec 32 := 1#32
  let arg15 : BitVec 32 := Scf.iv c0_i32_505 c1_i32_507 k0_t15
  let v1567 : Index := Scalar.indexCast arg15
  let c112_1118 : Index := 112#32
  ![v1567.toNat, 112]
@[reducible] def k0_t16_loop : Scf.Loop 32 :=
  let c0_i32_540 : BitVec 32 := 0#32
  let c50_i32_541 : BitVec 32 := 50#32
  let v746 : BitVec 32 := Scalar.addi c0_i32_540 c50_i32_541
  let c1_i32_542 : BitVec 32 := 1#32
  ⟨c0_i32_540, v746, c1_i32_542⟩
def k0_off122 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1539 : Index := Scalar.indexCast arg15
  let c0_1111 : Index := 0#32
  ![v1539.toNat, 0]
def k0_off123 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1543 : Index := Scalar.indexCast arg15
  let c16_1112 : Index := 16#32
  ![v1543.toNat, 16]
def k0_off124 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1547 : Index := Scalar.indexCast arg15
  let c32_1113 : Index := 32#32
  ![v1547.toNat, 32]
def k0_off125 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1551 : Index := Scalar.indexCast arg15
  let c48_1114 : Index := 48#32
  ![v1551.toNat, 48]
def k0_off126 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1555 : Index := Scalar.indexCast arg15
  let c64_1115 : Index := 64#32
  ![v1555.toNat, 64]
def k0_off127 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1559 : Index := Scalar.indexCast arg15
  let c80_1116 : Index := 80#32
  ![v1559.toNat, 80]
def k0_off128 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1563 : Index := Scalar.indexCast arg15
  let c96_1117 : Index := 96#32
  ![v1563.toNat, 96]
def k0_off129 (k0_t16 : Fin k0_t16_loop.trips) : Fin 2 → Nat :=
  let c0_i32_540 : BitVec 32 := 0#32
  let c1_i32_542 : BitVec 32 := 1#32
  let arg15 : BitVec 32 := Scf.iv c0_i32_540 c1_i32_542 k0_t16
  let v1567 : Index := Scalar.indexCast arg15
  let c112_1118 : Index := 112#32
  ![v1567.toNat, 112]
@[reducible] def k0_t17_loop : Scf.Loop 32 :=
  let c0_i32_575 : BitVec 32 := 0#32
  let c50_i32_576 : BitVec 32 := 50#32
  let v794 : BitVec 32 := Scalar.addi c0_i32_575 c50_i32_576
  let c1_i32_577 : BitVec 32 := 1#32
  ⟨c0_i32_575, v794, c1_i32_577⟩
def k0_off130 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1539 : Index := Scalar.indexCast arg15
  let c0_1111 : Index := 0#32
  ![v1539.toNat, 0]
def k0_off131 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1543 : Index := Scalar.indexCast arg15
  let c16_1112 : Index := 16#32
  ![v1543.toNat, 16]
def k0_off132 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1547 : Index := Scalar.indexCast arg15
  let c32_1113 : Index := 32#32
  ![v1547.toNat, 32]
def k0_off133 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1551 : Index := Scalar.indexCast arg15
  let c48_1114 : Index := 48#32
  ![v1551.toNat, 48]
def k0_off134 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1555 : Index := Scalar.indexCast arg15
  let c64_1115 : Index := 64#32
  ![v1555.toNat, 64]
def k0_off135 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1559 : Index := Scalar.indexCast arg15
  let c80_1116 : Index := 80#32
  ![v1559.toNat, 80]
def k0_off136 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1563 : Index := Scalar.indexCast arg15
  let c96_1117 : Index := 96#32
  ![v1563.toNat, 96]
def k0_off137 (k0_t17 : Fin k0_t17_loop.trips) : Fin 2 → Nat :=
  let c0_i32_575 : BitVec 32 := 0#32
  let c1_i32_577 : BitVec 32 := 1#32
  let arg15 : BitVec 32 := Scf.iv c0_i32_575 c1_i32_577 k0_t17
  let v1567 : Index := Scalar.indexCast arg15
  let c112_1118 : Index := 112#32
  ![v1567.toNat, 112]
@[reducible] def k0_t18_loop : Scf.Loop 32 :=
  let c0_i32_610 : BitVec 32 := 0#32
  let c50_i32_611 : BitVec 32 := 50#32
  let v842 : BitVec 32 := Scalar.addi c0_i32_610 c50_i32_611
  let c1_i32_612 : BitVec 32 := 1#32
  ⟨c0_i32_610, v842, c1_i32_612⟩
def k0_off138 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1539 : Index := Scalar.indexCast arg15
  let c0_1111 : Index := 0#32
  ![v1539.toNat, 0]
def k0_off139 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1543 : Index := Scalar.indexCast arg15
  let c16_1112 : Index := 16#32
  ![v1543.toNat, 16]
def k0_off140 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1547 : Index := Scalar.indexCast arg15
  let c32_1113 : Index := 32#32
  ![v1547.toNat, 32]
def k0_off141 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1551 : Index := Scalar.indexCast arg15
  let c48_1114 : Index := 48#32
  ![v1551.toNat, 48]
def k0_off142 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1555 : Index := Scalar.indexCast arg15
  let c64_1115 : Index := 64#32
  ![v1555.toNat, 64]
def k0_off143 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1559 : Index := Scalar.indexCast arg15
  let c80_1116 : Index := 80#32
  ![v1559.toNat, 80]
def k0_off144 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1563 : Index := Scalar.indexCast arg15
  let c96_1117 : Index := 96#32
  ![v1563.toNat, 96]
def k0_off145 (k0_t18 : Fin k0_t18_loop.trips) : Fin 2 → Nat :=
  let c0_i32_610 : BitVec 32 := 0#32
  let c1_i32_612 : BitVec 32 := 1#32
  let arg15 : BitVec 32 := Scf.iv c0_i32_610 c1_i32_612 k0_t18
  let v1567 : Index := Scalar.indexCast arg15
  let c112_1118 : Index := 112#32
  ![v1567.toNat, 112]
@[reducible] def k0_t19_loop : Scf.Loop 32 :=
  let c0_i32_645 : BitVec 32 := 0#32
  let c50_i32_646 : BitVec 32 := 50#32
  let v890 : BitVec 32 := Scalar.addi c0_i32_645 c50_i32_646
  let c1_i32_647 : BitVec 32 := 1#32
  ⟨c0_i32_645, v890, c1_i32_647⟩
def k0_off146 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1539 : Index := Scalar.indexCast arg15
  let c0_1111 : Index := 0#32
  ![v1539.toNat, 0]
def k0_off147 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1543 : Index := Scalar.indexCast arg15
  let c16_1112 : Index := 16#32
  ![v1543.toNat, 16]
def k0_off148 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1547 : Index := Scalar.indexCast arg15
  let c32_1113 : Index := 32#32
  ![v1547.toNat, 32]
def k0_off149 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1551 : Index := Scalar.indexCast arg15
  let c48_1114 : Index := 48#32
  ![v1551.toNat, 48]
def k0_off150 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1555 : Index := Scalar.indexCast arg15
  let c64_1115 : Index := 64#32
  ![v1555.toNat, 64]
def k0_off151 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1559 : Index := Scalar.indexCast arg15
  let c80_1116 : Index := 80#32
  ![v1559.toNat, 80]
def k0_off152 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1563 : Index := Scalar.indexCast arg15
  let c96_1117 : Index := 96#32
  ![v1563.toNat, 96]
def k0_off153 (k0_t19 : Fin k0_t19_loop.trips) : Fin 2 → Nat :=
  let c0_i32_645 : BitVec 32 := 0#32
  let c1_i32_647 : BitVec 32 := 1#32
  let arg15 : BitVec 32 := Scf.iv c0_i32_645 c1_i32_647 k0_t19
  let v1567 : Index := Scalar.indexCast arg15
  let c112_1118 : Index := 112#32
  ![v1567.toNat, 112]
@[reducible] def k0_t20_loop : Scf.Loop 32 :=
  let c0_i32_680 : BitVec 32 := 0#32
  let c50_i32_681 : BitVec 32 := 50#32
  let v938 : BitVec 32 := Scalar.addi c0_i32_680 c50_i32_681
  let c1_i32_682 : BitVec 32 := 1#32
  ⟨c0_i32_680, v938, c1_i32_682⟩
def k0_off154 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1539 : Index := Scalar.indexCast arg15
  let c0_1111 : Index := 0#32
  ![v1539.toNat, 0]
def k0_off155 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1543 : Index := Scalar.indexCast arg15
  let c16_1112 : Index := 16#32
  ![v1543.toNat, 16]
def k0_off156 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1547 : Index := Scalar.indexCast arg15
  let c32_1113 : Index := 32#32
  ![v1547.toNat, 32]
def k0_off157 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1551 : Index := Scalar.indexCast arg15
  let c48_1114 : Index := 48#32
  ![v1551.toNat, 48]
def k0_off158 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1555 : Index := Scalar.indexCast arg15
  let c64_1115 : Index := 64#32
  ![v1555.toNat, 64]
def k0_off159 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1559 : Index := Scalar.indexCast arg15
  let c80_1116 : Index := 80#32
  ![v1559.toNat, 80]
def k0_off160 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1563 : Index := Scalar.indexCast arg15
  let c96_1117 : Index := 96#32
  ![v1563.toNat, 96]
def k0_off161 (k0_t20 : Fin k0_t20_loop.trips) : Fin 2 → Nat :=
  let c0_i32_680 : BitVec 32 := 0#32
  let c1_i32_682 : BitVec 32 := 1#32
  let arg15 : BitVec 32 := Scf.iv c0_i32_680 c1_i32_682 k0_t20
  let v1567 : Index := Scalar.indexCast arg15
  let c112_1118 : Index := 112#32
  ![v1567.toNat, 112]
@[reducible] def k0_t21_loop : Scf.Loop 32 :=
  let c0_i32_715 : BitVec 32 := 0#32
  let c50_i32_716 : BitVec 32 := 50#32
  let v986 : BitVec 32 := Scalar.addi c0_i32_715 c50_i32_716
  let c1_i32_717 : BitVec 32 := 1#32
  ⟨c0_i32_715, v986, c1_i32_717⟩
def k0_off162 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1539 : Index := Scalar.indexCast arg15
  let c0_1111 : Index := 0#32
  ![v1539.toNat, 0]
def k0_off163 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1543 : Index := Scalar.indexCast arg15
  let c16_1112 : Index := 16#32
  ![v1543.toNat, 16]
def k0_off164 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1547 : Index := Scalar.indexCast arg15
  let c32_1113 : Index := 32#32
  ![v1547.toNat, 32]
def k0_off165 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1551 : Index := Scalar.indexCast arg15
  let c48_1114 : Index := 48#32
  ![v1551.toNat, 48]
def k0_off166 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1555 : Index := Scalar.indexCast arg15
  let c64_1115 : Index := 64#32
  ![v1555.toNat, 64]
def k0_off167 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1559 : Index := Scalar.indexCast arg15
  let c80_1116 : Index := 80#32
  ![v1559.toNat, 80]
def k0_off168 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1563 : Index := Scalar.indexCast arg15
  let c96_1117 : Index := 96#32
  ![v1563.toNat, 96]
def k0_off169 (k0_t21 : Fin k0_t21_loop.trips) : Fin 2 → Nat :=
  let c0_i32_715 : BitVec 32 := 0#32
  let c1_i32_717 : BitVec 32 := 1#32
  let arg15 : BitVec 32 := Scf.iv c0_i32_715 c1_i32_717 k0_t21
  let v1567 : Index := Scalar.indexCast arg15
  let c112_1118 : Index := 112#32
  ![v1567.toNat, 112]
@[reducible] def k0_t22_loop : Scf.Loop 32 :=
  let c0_i32_750 : BitVec 32 := 0#32
  let c50_i32_751 : BitVec 32 := 50#32
  let v1034 : BitVec 32 := Scalar.addi c0_i32_750 c50_i32_751
  let c1_i32_752 : BitVec 32 := 1#32
  ⟨c0_i32_750, v1034, c1_i32_752⟩
def k0_off170 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1539 : Index := Scalar.indexCast arg15
  let c0_1111 : Index := 0#32
  ![v1539.toNat, 0]
def k0_off171 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1543 : Index := Scalar.indexCast arg15
  let c16_1112 : Index := 16#32
  ![v1543.toNat, 16]
def k0_off172 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1547 : Index := Scalar.indexCast arg15
  let c32_1113 : Index := 32#32
  ![v1547.toNat, 32]
def k0_off173 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1551 : Index := Scalar.indexCast arg15
  let c48_1114 : Index := 48#32
  ![v1551.toNat, 48]
def k0_off174 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1555 : Index := Scalar.indexCast arg15
  let c64_1115 : Index := 64#32
  ![v1555.toNat, 64]
def k0_off175 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1559 : Index := Scalar.indexCast arg15
  let c80_1116 : Index := 80#32
  ![v1559.toNat, 80]
def k0_off176 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1563 : Index := Scalar.indexCast arg15
  let c96_1117 : Index := 96#32
  ![v1563.toNat, 96]
def k0_off177 (k0_t22 : Fin k0_t22_loop.trips) : Fin 2 → Nat :=
  let c0_i32_750 : BitVec 32 := 0#32
  let c1_i32_752 : BitVec 32 := 1#32
  let arg15 : BitVec 32 := Scf.iv c0_i32_750 c1_i32_752 k0_t22
  let v1567 : Index := Scalar.indexCast arg15
  let c112_1118 : Index := 112#32
  ![v1567.toNat, 112]
@[reducible] def k0_t23_loop : Scf.Loop 32 :=
  let c0_i32_785 : BitVec 32 := 0#32
  let c50_i32_786 : BitVec 32 := 50#32
  let v1082 : BitVec 32 := Scalar.addi c0_i32_785 c50_i32_786
  let c1_i32_787 : BitVec 32 := 1#32
  ⟨c0_i32_785, v1082, c1_i32_787⟩
def k0_off178 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1539 : Index := Scalar.indexCast arg15
  let c0_1111 : Index := 0#32
  ![v1539.toNat, 0]
def k0_off179 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1543 : Index := Scalar.indexCast arg15
  let c16_1112 : Index := 16#32
  ![v1543.toNat, 16]
def k0_off180 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1547 : Index := Scalar.indexCast arg15
  let c32_1113 : Index := 32#32
  ![v1547.toNat, 32]
def k0_off181 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1551 : Index := Scalar.indexCast arg15
  let c48_1114 : Index := 48#32
  ![v1551.toNat, 48]
def k0_off182 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1555 : Index := Scalar.indexCast arg15
  let c64_1115 : Index := 64#32
  ![v1555.toNat, 64]
def k0_off183 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1559 : Index := Scalar.indexCast arg15
  let c80_1116 : Index := 80#32
  ![v1559.toNat, 80]
def k0_off184 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1563 : Index := Scalar.indexCast arg15
  let c96_1117 : Index := 96#32
  ![v1563.toNat, 96]
def k0_off185 (k0_t23 : Fin k0_t23_loop.trips) : Fin 2 → Nat :=
  let c0_i32_785 : BitVec 32 := 0#32
  let c1_i32_787 : BitVec 32 := 1#32
  let arg15 : BitVec 32 := Scf.iv c0_i32_785 c1_i32_787 k0_t23
  let v1567 : Index := Scalar.indexCast arg15
  let c112_1118 : Index := 112#32
  ![v1567.toNat, 112]
@[reducible] def k0_t24_loop : Scf.Loop 32 :=
  let c0_i32_820 : BitVec 32 := 0#32
  let c50_i32_821 : BitVec 32 := 50#32
  let v1130 : BitVec 32 := Scalar.addi c0_i32_820 c50_i32_821
  let c1_i32_822 : BitVec 32 := 1#32
  ⟨c0_i32_820, v1130, c1_i32_822⟩
def k0_off186 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1539 : Index := Scalar.indexCast arg15
  let c0_1111 : Index := 0#32
  ![v1539.toNat, 0]
def k0_off187 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1543 : Index := Scalar.indexCast arg15
  let c16_1112 : Index := 16#32
  ![v1543.toNat, 16]
def k0_off188 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1547 : Index := Scalar.indexCast arg15
  let c32_1113 : Index := 32#32
  ![v1547.toNat, 32]
def k0_off189 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1551 : Index := Scalar.indexCast arg15
  let c48_1114 : Index := 48#32
  ![v1551.toNat, 48]
def k0_off190 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1555 : Index := Scalar.indexCast arg15
  let c64_1115 : Index := 64#32
  ![v1555.toNat, 64]
def k0_off191 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1559 : Index := Scalar.indexCast arg15
  let c80_1116 : Index := 80#32
  ![v1559.toNat, 80]
def k0_off192 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1563 : Index := Scalar.indexCast arg15
  let c96_1117 : Index := 96#32
  ![v1563.toNat, 96]
def k0_off193 (k0_t24 : Fin k0_t24_loop.trips) : Fin 2 → Nat :=
  let c0_i32_820 : BitVec 32 := 0#32
  let c1_i32_822 : BitVec 32 := 1#32
  let arg15 : BitVec 32 := Scf.iv c0_i32_820 c1_i32_822 k0_t24
  let v1567 : Index := Scalar.indexCast arg15
  let c112_1118 : Index := 112#32
  ![v1567.toNat, 112]
@[reducible] def k0_t25_loop : Scf.Loop 32 :=
  let c0_i32_855 : BitVec 32 := 0#32
  let c50_i32_856 : BitVec 32 := 50#32
  let v1178 : BitVec 32 := Scalar.addi c0_i32_855 c50_i32_856
  let c1_i32_857 : BitVec 32 := 1#32
  ⟨c0_i32_855, v1178, c1_i32_857⟩
def k0_off194 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1539 : Index := Scalar.indexCast arg15
  let c0_1111 : Index := 0#32
  ![v1539.toNat, 0]
def k0_off195 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1543 : Index := Scalar.indexCast arg15
  let c16_1112 : Index := 16#32
  ![v1543.toNat, 16]
def k0_off196 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1547 : Index := Scalar.indexCast arg15
  let c32_1113 : Index := 32#32
  ![v1547.toNat, 32]
def k0_off197 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1551 : Index := Scalar.indexCast arg15
  let c48_1114 : Index := 48#32
  ![v1551.toNat, 48]
def k0_off198 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1555 : Index := Scalar.indexCast arg15
  let c64_1115 : Index := 64#32
  ![v1555.toNat, 64]
def k0_off199 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1559 : Index := Scalar.indexCast arg15
  let c80_1116 : Index := 80#32
  ![v1559.toNat, 80]
def k0_off200 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1563 : Index := Scalar.indexCast arg15
  let c96_1117 : Index := 96#32
  ![v1563.toNat, 96]
def k0_off201 (k0_t25 : Fin k0_t25_loop.trips) : Fin 2 → Nat :=
  let c0_i32_855 : BitVec 32 := 0#32
  let c1_i32_857 : BitVec 32 := 1#32
  let arg15 : BitVec 32 := Scf.iv c0_i32_855 c1_i32_857 k0_t25
  let v1567 : Index := Scalar.indexCast arg15
  let c112_1118 : Index := 112#32
  ![v1567.toNat, 112]
@[reducible] def k0_t26_loop : Scf.Loop 32 :=
  let c0_i32_890 : BitVec 32 := 0#32
  let c50_i32_891 : BitVec 32 := 50#32
  let v1226 : BitVec 32 := Scalar.addi c0_i32_890 c50_i32_891
  let c1_i32_892 : BitVec 32 := 1#32
  ⟨c0_i32_890, v1226, c1_i32_892⟩
def k0_off202 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1539 : Index := Scalar.indexCast arg15
  let c0_1111 : Index := 0#32
  ![v1539.toNat, 0]
def k0_off203 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1543 : Index := Scalar.indexCast arg15
  let c16_1112 : Index := 16#32
  ![v1543.toNat, 16]
def k0_off204 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1547 : Index := Scalar.indexCast arg15
  let c32_1113 : Index := 32#32
  ![v1547.toNat, 32]
def k0_off205 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1551 : Index := Scalar.indexCast arg15
  let c48_1114 : Index := 48#32
  ![v1551.toNat, 48]
def k0_off206 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1555 : Index := Scalar.indexCast arg15
  let c64_1115 : Index := 64#32
  ![v1555.toNat, 64]
def k0_off207 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1559 : Index := Scalar.indexCast arg15
  let c80_1116 : Index := 80#32
  ![v1559.toNat, 80]
def k0_off208 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1563 : Index := Scalar.indexCast arg15
  let c96_1117 : Index := 96#32
  ![v1563.toNat, 96]
def k0_off209 (k0_t26 : Fin k0_t26_loop.trips) : Fin 2 → Nat :=
  let c0_i32_890 : BitVec 32 := 0#32
  let c1_i32_892 : BitVec 32 := 1#32
  let arg15 : BitVec 32 := Scf.iv c0_i32_890 c1_i32_892 k0_t26
  let v1567 : Index := Scalar.indexCast arg15
  let c112_1118 : Index := 112#32
  ![v1567.toNat, 112]
@[reducible] def k0_t27_loop : Scf.Loop 32 :=
  let c0_i32_925 : BitVec 32 := 0#32
  let c50_i32_926 : BitVec 32 := 50#32
  let v1274 : BitVec 32 := Scalar.addi c0_i32_925 c50_i32_926
  let c1_i32_927 : BitVec 32 := 1#32
  ⟨c0_i32_925, v1274, c1_i32_927⟩
def k0_off210 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1539 : Index := Scalar.indexCast arg15
  let c0_1111 : Index := 0#32
  ![v1539.toNat, 0]
def k0_off211 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1543 : Index := Scalar.indexCast arg15
  let c16_1112 : Index := 16#32
  ![v1543.toNat, 16]
def k0_off212 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1547 : Index := Scalar.indexCast arg15
  let c32_1113 : Index := 32#32
  ![v1547.toNat, 32]
def k0_off213 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1551 : Index := Scalar.indexCast arg15
  let c48_1114 : Index := 48#32
  ![v1551.toNat, 48]
def k0_off214 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1555 : Index := Scalar.indexCast arg15
  let c64_1115 : Index := 64#32
  ![v1555.toNat, 64]
def k0_off215 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1559 : Index := Scalar.indexCast arg15
  let c80_1116 : Index := 80#32
  ![v1559.toNat, 80]
def k0_off216 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1563 : Index := Scalar.indexCast arg15
  let c96_1117 : Index := 96#32
  ![v1563.toNat, 96]
def k0_off217 (k0_t27 : Fin k0_t27_loop.trips) : Fin 2 → Nat :=
  let c0_i32_925 : BitVec 32 := 0#32
  let c1_i32_927 : BitVec 32 := 1#32
  let arg15 : BitVec 32 := Scf.iv c0_i32_925 c1_i32_927 k0_t27
  let v1567 : Index := Scalar.indexCast arg15
  let c112_1118 : Index := 112#32
  ![v1567.toNat, 112]
@[reducible] def k0_t28_loop : Scf.Loop 32 :=
  let c0_i32_960 : BitVec 32 := 0#32
  let c50_i32_961 : BitVec 32 := 50#32
  let v1322 : BitVec 32 := Scalar.addi c0_i32_960 c50_i32_961
  let c1_i32_962 : BitVec 32 := 1#32
  ⟨c0_i32_960, v1322, c1_i32_962⟩
def k0_off218 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1539 : Index := Scalar.indexCast arg15
  let c0_1111 : Index := 0#32
  ![v1539.toNat, 0]
def k0_off219 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1543 : Index := Scalar.indexCast arg15
  let c16_1112 : Index := 16#32
  ![v1543.toNat, 16]
def k0_off220 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1547 : Index := Scalar.indexCast arg15
  let c32_1113 : Index := 32#32
  ![v1547.toNat, 32]
def k0_off221 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1551 : Index := Scalar.indexCast arg15
  let c48_1114 : Index := 48#32
  ![v1551.toNat, 48]
def k0_off222 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1555 : Index := Scalar.indexCast arg15
  let c64_1115 : Index := 64#32
  ![v1555.toNat, 64]
def k0_off223 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1559 : Index := Scalar.indexCast arg15
  let c80_1116 : Index := 80#32
  ![v1559.toNat, 80]
def k0_off224 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1563 : Index := Scalar.indexCast arg15
  let c96_1117 : Index := 96#32
  ![v1563.toNat, 96]
def k0_off225 (k0_t28 : Fin k0_t28_loop.trips) : Fin 2 → Nat :=
  let c0_i32_960 : BitVec 32 := 0#32
  let c1_i32_962 : BitVec 32 := 1#32
  let arg15 : BitVec 32 := Scf.iv c0_i32_960 c1_i32_962 k0_t28
  let v1567 : Index := Scalar.indexCast arg15
  let c112_1118 : Index := 112#32
  ![v1567.toNat, 112]
@[reducible] def k0_t29_loop : Scf.Loop 32 :=
  let c0_i32_995 : BitVec 32 := 0#32
  let c50_i32_996 : BitVec 32 := 50#32
  let v1370 : BitVec 32 := Scalar.addi c0_i32_995 c50_i32_996
  let c1_i32_997 : BitVec 32 := 1#32
  ⟨c0_i32_995, v1370, c1_i32_997⟩
def k0_off226 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1539 : Index := Scalar.indexCast arg15
  let c0_1111 : Index := 0#32
  ![v1539.toNat, 0]
def k0_off227 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1543 : Index := Scalar.indexCast arg15
  let c16_1112 : Index := 16#32
  ![v1543.toNat, 16]
def k0_off228 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1547 : Index := Scalar.indexCast arg15
  let c32_1113 : Index := 32#32
  ![v1547.toNat, 32]
def k0_off229 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1551 : Index := Scalar.indexCast arg15
  let c48_1114 : Index := 48#32
  ![v1551.toNat, 48]
def k0_off230 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1555 : Index := Scalar.indexCast arg15
  let c64_1115 : Index := 64#32
  ![v1555.toNat, 64]
def k0_off231 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1559 : Index := Scalar.indexCast arg15
  let c80_1116 : Index := 80#32
  ![v1559.toNat, 80]
def k0_off232 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1563 : Index := Scalar.indexCast arg15
  let c96_1117 : Index := 96#32
  ![v1563.toNat, 96]
def k0_off233 (k0_t29 : Fin k0_t29_loop.trips) : Fin 2 → Nat :=
  let c0_i32_995 : BitVec 32 := 0#32
  let c1_i32_997 : BitVec 32 := 1#32
  let arg15 : BitVec 32 := Scf.iv c0_i32_995 c1_i32_997 k0_t29
  let v1567 : Index := Scalar.indexCast arg15
  let c112_1118 : Index := 112#32
  ![v1567.toNat, 112]
@[reducible] def k0_t30_loop : Scf.Loop 32 :=
  let c0_i32_1027 : BitVec 32 := 0#32
  let c50_i32_1028 : BitVec 32 := 50#32
  let v1415 : BitVec 32 := Scalar.addi c0_i32_1027 c50_i32_1028
  let c1_i32_1029 : BitVec 32 := 1#32
  ⟨c0_i32_1027, v1415, c1_i32_1029⟩
def k0_off234 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1539 : Index := Scalar.indexCast arg15
  let c0_1111 : Index := 0#32
  ![v1539.toNat, 0]
def k0_off235 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1543 : Index := Scalar.indexCast arg15
  let c16_1112 : Index := 16#32
  ![v1543.toNat, 16]
def k0_off236 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1547 : Index := Scalar.indexCast arg15
  let c32_1113 : Index := 32#32
  ![v1547.toNat, 32]
def k0_off237 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1551 : Index := Scalar.indexCast arg15
  let c48_1114 : Index := 48#32
  ![v1551.toNat, 48]
def k0_off238 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1555 : Index := Scalar.indexCast arg15
  let c64_1115 : Index := 64#32
  ![v1555.toNat, 64]
def k0_off239 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1559 : Index := Scalar.indexCast arg15
  let c80_1116 : Index := 80#32
  ![v1559.toNat, 80]
def k0_off240 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1563 : Index := Scalar.indexCast arg15
  let c96_1117 : Index := 96#32
  ![v1563.toNat, 96]
def k0_off241 (k0_t30 : Fin k0_t30_loop.trips) : Fin 2 → Nat :=
  let c0_i32_1027 : BitVec 32 := 0#32
  let c1_i32_1029 : BitVec 32 := 1#32
  let arg15 : BitVec 32 := Scf.iv c0_i32_1027 c1_i32_1029 k0_t30
  let v1567 : Index := Scalar.indexCast arg15
  let c112_1118 : Index := 112#32
  ![v1567.toNat, 112]
@[reducible] def k0_t31_loop : Scf.Loop 32 :=
  let c0_i32_1059 : BitVec 32 := 0#32
  let c50_i32_1060 : BitVec 32 := 50#32
  let v1460 : BitVec 32 := Scalar.addi c0_i32_1059 c50_i32_1060
  let c1_i32_1061 : BitVec 32 := 1#32
  ⟨c0_i32_1059, v1460, c1_i32_1061⟩
def k0_off242 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1539 : Index := Scalar.indexCast arg15
  let c0_1111 : Index := 0#32
  ![v1539.toNat, 0]
def k0_off243 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1543 : Index := Scalar.indexCast arg15
  let c16_1112 : Index := 16#32
  ![v1543.toNat, 16]
def k0_off244 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1547 : Index := Scalar.indexCast arg15
  let c32_1113 : Index := 32#32
  ![v1547.toNat, 32]
def k0_off245 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1551 : Index := Scalar.indexCast arg15
  let c48_1114 : Index := 48#32
  ![v1551.toNat, 48]
def k0_off246 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1555 : Index := Scalar.indexCast arg15
  let c64_1115 : Index := 64#32
  ![v1555.toNat, 64]
def k0_off247 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1559 : Index := Scalar.indexCast arg15
  let c80_1116 : Index := 80#32
  ![v1559.toNat, 80]
def k0_off248 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1563 : Index := Scalar.indexCast arg15
  let c96_1117 : Index := 96#32
  ![v1563.toNat, 96]
def k0_off249 (k0_t31 : Fin k0_t31_loop.trips) : Fin 2 → Nat :=
  let c0_i32_1059 : BitVec 32 := 0#32
  let c1_i32_1061 : BitVec 32 := 1#32
  let arg15 : BitVec 32 := Scf.iv c0_i32_1059 c1_i32_1061 k0_t31
  let v1567 : Index := Scalar.indexCast arg15
  let c112_1118 : Index := 112#32
  ![v1567.toNat, 112]
@[reducible] def k0_t32_loop : Scf.Loop 32 :=
  let c0_i32_1091 : BitVec 32 := 0#32
  let c50_i32_1092 : BitVec 32 := 50#32
  let v1505 : BitVec 32 := Scalar.addi c0_i32_1091 c50_i32_1092
  let c1_i32_1093 : BitVec 32 := 1#32
  ⟨c0_i32_1091, v1505, c1_i32_1093⟩
def k0_off250 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1539 : Index := Scalar.indexCast arg15
  let c0_1111 : Index := 0#32
  ![v1539.toNat, 0]
def k0_off251 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1543 : Index := Scalar.indexCast arg15
  let c16_1112 : Index := 16#32
  ![v1543.toNat, 16]
def k0_off252 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1547 : Index := Scalar.indexCast arg15
  let c32_1113 : Index := 32#32
  ![v1547.toNat, 32]
def k0_off253 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1551 : Index := Scalar.indexCast arg15
  let c48_1114 : Index := 48#32
  ![v1551.toNat, 48]
def k0_off254 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1555 : Index := Scalar.indexCast arg15
  let c64_1115 : Index := 64#32
  ![v1555.toNat, 64]
def k0_off255 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1559 : Index := Scalar.indexCast arg15
  let c80_1116 : Index := 80#32
  ![v1559.toNat, 80]
def k0_off256 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1563 : Index := Scalar.indexCast arg15
  let c96_1117 : Index := 96#32
  ![v1563.toNat, 96]
def k0_off257 (k0_t32 : Fin k0_t32_loop.trips) : Fin 2 → Nat :=
  let c0_i32_1091 : BitVec 32 := 0#32
  let c1_i32_1093 : BitVec 32 := 1#32
  let arg15 : BitVec 32 := Scf.iv c0_i32_1091 c1_i32_1093 k0_t32
  let v1567 : Index := Scalar.indexCast arg15
  let c112_1118 : Index := 112#32
  ![v1567.toNat, 112]
def k0_off258 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_1111_r1 : BitVec 32 := 0#32
  ![v2.toNat, 0]
abbrev grid1 : Pipeline.Grid := .none

abbrev stage1_0 : Fin 1 → Memref sig .tc .vmem S1024x50 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1024x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev grid2 : Pipeline.Grid := ⟨1, ![97], ![false]⟩

def k2_cond1 (i : grid2.Coords) : BitVec 1 :=
  let arg0 : BitVec 32 := BitVec.ofNat 32 (i 0).val
  let c4_i32 : BitVec 32 := 4#32
  let v10 : BitVec 32 := Scalar.remsi arg0 c4_i32
  let c0_i32 : BitVec 32 := 0#32
  let v11 : BitVec 1 := Scalar.cmpi .eq v10 c0_i32
  let v12 : BitVec 32 := Scalar.extui v11
  let c0_i32_5 : BitVec 32 := 0#32
  let v13 : BitVec 1 := Scalar.cmpi .ne v12 c0_i32_5
  v13

def k2_cond2 (i : grid2.Coords) : BitVec 1 :=
  let arg0 : BitVec 32 := BitVec.ofNat 32 (i 0).val
  let c4_i32_13 : BitVec 32 := 4#32
  let v29 : BitVec 1 := Scalar.cmpi .sge arg0 c4_i32_13
  let v30 : BitVec 32 := Scalar.extui v29
  let c0_i32_14 : BitVec 32 := 0#32
  let v31 : BitVec 1 := Scalar.cmpi .ne v30 c0_i32_14
  v31

def k2_off1 (i : grid2.Coords) : Fin 2 → Nat :=
  let c0_i32_20 : BitVec 32 := 0#32
  let arg0 : BitVec 32 := BitVec.ofNat 32 (i 0).val
  let c4_i32_18 : BitVec 32 := 4#32
  let v37 : BitVec 32 := Scalar.subi arg0 c4_i32_18
  let c1024_i32_19 : BitVec 32 := 1024#32
  let v38 : BitVec 32 := Scalar.muli v37 c1024_i32_19
  ![0, v38.toNat]
def k2_off2 (i : grid2.Coords) : Fin 2 → Nat :=
  let c0_i32_17 : BitVec 32 := 0#32
  let arg0 : BitVec 32 := BitVec.ofNat 32 (i 0).val
  let c1024_i32 : BitVec 32 := 1024#32
  let v35 : BitVec 32 := Scalar.muli arg0 c1024_i32
  ![0, v35.toNat]
def k2_cond3 (i : grid2.Coords) : BitVec 1 :=
  let arg0 : BitVec 32 := BitVec.ofNat 32 (i 0).val
  let c4_i32_6 : BitVec 32 := 4#32
  let v14 : BitVec 32 := Scalar.remsi arg0 c4_i32_6
  let c1_i32 : BitVec 32 := 1#32
  let v15 : BitVec 1 := Scalar.cmpi .eq v14 c1_i32
  let v16 : BitVec 32 := Scalar.extui v15
  let c0_i32_7 : BitVec 32 := 0#32
  let v17 : BitVec 1 := Scalar.cmpi .ne v16 c0_i32_7
  v17

def k2_cond4 (i : grid2.Coords) : BitVec 1 :=
  let arg0 : BitVec 32 := BitVec.ofNat 32 (i 0).val
  let c4_i32_13 : BitVec 32 := 4#32
  let v29 : BitVec 1 := Scalar.cmpi .sge arg0 c4_i32_13
  let v30 : BitVec 32 := Scalar.extui v29
  let c0_i32_14 : BitVec 32 := 0#32
  let v31 : BitVec 1 := Scalar.cmpi .ne v30 c0_i32_14
  v31

def k2_off3 (i : grid2.Coords) : Fin 2 → Nat :=
  let c0_i32_20 : BitVec 32 := 0#32
  let arg0 : BitVec 32 := BitVec.ofNat 32 (i 0).val
  let c4_i32_18 : BitVec 32 := 4#32
  let v37 : BitVec 32 := Scalar.subi arg0 c4_i32_18
  let c1024_i32_19 : BitVec 32 := 1024#32
  let v38 : BitVec 32 := Scalar.muli v37 c1024_i32_19
  ![0, v38.toNat]
def k2_off4 (i : grid2.Coords) : Fin 2 → Nat :=
  let c0_i32_17 : BitVec 32 := 0#32
  let arg0 : BitVec 32 := BitVec.ofNat 32 (i 0).val
  let c1024_i32 : BitVec 32 := 1024#32
  let v35 : BitVec 32 := Scalar.muli arg0 c1024_i32
  ![0, v35.toNat]
def k2_cond5 (i : grid2.Coords) : BitVec 1 :=
  let arg0 : BitVec 32 := BitVec.ofNat 32 (i 0).val
  let c4_i32_8 : BitVec 32 := 4#32
  let v18 : BitVec 32 := Scalar.remsi arg0 c4_i32_8
  let c2_i32 : BitVec 32 := 2#32
  let v19 : BitVec 1 := Scalar.cmpi .eq v18 c2_i32
  let v20 : BitVec 32 := Scalar.extui v19
  let c0_i32_9 : BitVec 32 := 0#32
  let v21 : BitVec 1 := Scalar.cmpi .ne v20 c0_i32_9
  v21

def k2_cond6 (i : grid2.Coords) : BitVec 1 :=
  let arg0 : BitVec 32 := BitVec.ofNat 32 (i 0).val
  let c4_i32_13 : BitVec 32 := 4#32
  let v29 : BitVec 1 := Scalar.cmpi .sge arg0 c4_i32_13
  let v30 : BitVec 32 := Scalar.extui v29
  let c0_i32_14 : BitVec 32 := 0#32
  let v31 : BitVec 1 := Scalar.cmpi .ne v30 c0_i32_14
  v31

def k2_off5 (i : grid2.Coords) : Fin 2 → Nat :=
  let c0_i32_20 : BitVec 32 := 0#32
  let arg0 : BitVec 32 := BitVec.ofNat 32 (i 0).val
  let c4_i32_18 : BitVec 32 := 4#32
  let v37 : BitVec 32 := Scalar.subi arg0 c4_i32_18
  let c1024_i32_19 : BitVec 32 := 1024#32
  let v38 : BitVec 32 := Scalar.muli v37 c1024_i32_19
  ![0, v38.toNat]
def k2_off6 (i : grid2.Coords) : Fin 2 → Nat :=
  let c0_i32_17 : BitVec 32 := 0#32
  let arg0 : BitVec 32 := BitVec.ofNat 32 (i 0).val
  let c1024_i32 : BitVec 32 := 1024#32
  let v35 : BitVec 32 := Scalar.muli arg0 c1024_i32
  ![0, v35.toNat]
def k2_cond7 (i : grid2.Coords) : BitVec 1 :=
  let arg0 : BitVec 32 := BitVec.ofNat 32 (i 0).val
  let c4_i32_10 : BitVec 32 := 4#32
  let v22 : BitVec 32 := Scalar.remsi arg0 c4_i32_10
  let c3_i32 : BitVec 32 := 3#32
  let v23 : BitVec 1 := Scalar.cmpi .eq v22 c3_i32
  let v24 : BitVec 32 := Scalar.extui v23
  let c0_i32_11 : BitVec 32 := 0#32
  let v25 : BitVec 1 := Scalar.cmpi .ne v24 c0_i32_11
  v25

def k2_cond8 (i : grid2.Coords) : BitVec 1 :=
  let arg0 : BitVec 32 := BitVec.ofNat 32 (i 0).val
  let c4_i32_13 : BitVec 32 := 4#32
  let v29 : BitVec 1 := Scalar.cmpi .sge arg0 c4_i32_13
  let v30 : BitVec 32 := Scalar.extui v29
  let c0_i32_14 : BitVec 32 := 0#32
  let v31 : BitVec 1 := Scalar.cmpi .ne v30 c0_i32_14
  v31

def k2_off7 (i : grid2.Coords) : Fin 2 → Nat :=
  let c0_i32_20 : BitVec 32 := 0#32
  let arg0 : BitVec 32 := BitVec.ofNat 32 (i 0).val
  let c4_i32_18 : BitVec 32 := 4#32
  let v37 : BitVec 32 := Scalar.subi arg0 c4_i32_18
  let c1024_i32_19 : BitVec 32 := 1024#32
  let v38 : BitVec 32 := Scalar.muli v37 c1024_i32_19
  ![0, v38.toNat]
def k2_off8 (i : grid2.Coords) : Fin 2 → Nat :=
  let c0_i32_17 : BitVec 32 := 0#32
  let arg0 : BitVec 32 := BitVec.ofNat 32 (i 0).val
  let c1024_i32 : BitVec 32 := 1024#32
  let v35 : BitVec 32 := Scalar.muli arg0 c1024_i32
  ![0, v35.toNat]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x50 : Shape := ⟨2, ![1024, 50]⟩
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x100000 : Shape := ⟨2, ![256, 100000]⟩
abbrev S100000 : Shape := ⟨1, ![100000]⟩
abbrev S_ : Shape := ⟨0, ![]⟩
abbrev S1024x50x1 : Shape := ⟨3, ![1024, 50, 1]⟩
abbrev S1x1x1 : Shape := ⟨3, ![1, 1, 1]⟩
abbrev S1024x50x128 : Shape := ⟨3, ![1024, 50, 128]⟩
abbrev S1024x128 : Shape := ⟨2, ![1024, 128]⟩
abbrev S1024x1 : Shape := ⟨2, ![1024, 1]⟩
abbrev S1024x256 : Shape := ⟨2, ![1024, 256]⟩
abbrev S1x256 : Shape := ⟨2, ![1, 256]⟩
abbrev S1x1 : Shape := ⟨2, ![1, 1]⟩
abbrev S1024 : Shape := ⟨1, ![1024]⟩
abbrev S1024x100000 : Shape := ⟨2, ![1024, 100000]⟩
abbrev S1x100000 : Shape := ⟨2, ![1, 100000]⟩
abbrev S1024x99328 : Shape := ⟨2, ![1024, 99328]⟩

abbrev nBuf : Space → Nat
  | .hbm => 74
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S100000x128, .f32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S256x100000, .f32⟩
  | .hbm, ⟨9, _⟩ => ⟨S100000, .f32⟩
  | .hbm, ⟨10, _⟩ => ⟨S_, .i32⟩
  | .hbm, ⟨11, _⟩ => ⟨S1024x50, .i32⟩
  | .hbm, ⟨12, _⟩ => ⟨S1024x50, .i1⟩
  | .hbm, ⟨13, _⟩ => ⟨S_, .i32⟩
  | .hbm, ⟨14, _⟩ => ⟨S1024x50, .i32⟩
  | .hbm, ⟨15, _⟩ => ⟨S1024x50, .i32⟩
  | .hbm, ⟨16, _⟩ => ⟨S1024x50, .i32⟩
  | .hbm, ⟨17, _⟩ => ⟨S1024x50x1, .i32⟩
  | .hbm, ⟨18, _⟩ => ⟨S1, .i32⟩
  | .hbm, ⟨19, _⟩ => ⟨S_, .i32⟩
  | .hbm, ⟨20, _⟩ => ⟨S1024x50x1, .i32⟩
  | .hbm, ⟨21, _⟩ => ⟨S1024x50x1, .i1⟩
  | .hbm, ⟨22, _⟩ => ⟨S1x1x1, .i32⟩
  | .hbm, ⟨23, _⟩ => ⟨S1024x50x1, .i32⟩
  | .hbm, ⟨24, _⟩ => ⟨S1024x50x1, .i1⟩
  | .hbm, ⟨25, _⟩ => ⟨S1024x50x1, .i1⟩
  | .hbm, ⟨26, _⟩ => ⟨S_, .i1⟩
  | .hbm, ⟨27, _⟩ => ⟨S1024x50, .i1⟩
  | .hbm, ⟨28, _⟩ => ⟨S1024x50x128, .f32⟩
  | .hbm, ⟨29, _⟩ => ⟨S1024x50x128, .i1⟩
  | .hbm, ⟨30, _⟩ => ⟨S_, .f32⟩
  | .hbm, ⟨31, _⟩ => ⟨S1024x50x128, .f32⟩
  | .hbm, ⟨32, _⟩ => ⟨S1024x50x128, .f32⟩
  | .hbm, ⟨33, _⟩ => ⟨S_, .i32⟩
  | .hbm, ⟨34, _⟩ => ⟨S1024x50, .i32⟩
  | .hbm, ⟨35, _⟩ => ⟨S1024x50, .i1⟩
  | .hbm, ⟨36, _⟩ => ⟨S1024x50, .f32⟩
  | .hbm, ⟨37, _⟩ => ⟨S1024x50x1, .f32⟩
  | .hbm, ⟨38, _⟩ => ⟨S1024x50x128, .f32⟩
  | .hbm, ⟨39, _⟩ => ⟨S1024x50x128, .f32⟩
  | .hbm, ⟨40, _⟩ => ⟨S_, .f32⟩
  | .hbm, ⟨41, _⟩ => ⟨S1024x128, .f32⟩
  | .hbm, ⟨42, _⟩ => ⟨S_, .f32⟩
  | .hbm, ⟨43, _⟩ => ⟨S1024x1, .f32⟩
  | .hbm, ⟨44, _⟩ => ⟨S_, .f32⟩
  | .hbm, ⟨45, _⟩ => ⟨S_, .f32⟩
  | .hbm, ⟨46, _⟩ => ⟨S1024x1, .f32⟩
  | .hbm, ⟨47, _⟩ => ⟨S1024x1, .f32⟩
  | .hbm, ⟨48, _⟩ => ⟨S1024x128, .f32⟩
  | .hbm, ⟨49, _⟩ => ⟨S1024x128, .f32⟩
  | .hbm, ⟨50, _⟩ => ⟨S1024x256, .f32⟩
  | .hbm, ⟨51, _⟩ => ⟨S1x256, .f32⟩
  | .hbm, ⟨52, _⟩ => ⟨S1024x256, .f32⟩
  | .hbm, ⟨53, _⟩ => ⟨S1024x256, .f32⟩
  | .hbm, ⟨54, _⟩ => ⟨S_, .f32⟩
  | .hbm, ⟨55, _⟩ => ⟨S1024x256, .f32⟩
  | .hbm, ⟨56, _⟩ => ⟨S1024x256, .f32⟩
  | .hbm, ⟨57, _⟩ => ⟨S1024x256, .f32⟩
  | .hbm, ⟨58, _⟩ => ⟨S1x256, .f32⟩
  | .hbm, ⟨59, _⟩ => ⟨S1024x256, .f32⟩
  | .hbm, ⟨60, _⟩ => ⟨S1024x256, .f32⟩
  | .hbm, ⟨61, _⟩ => ⟨S_, .f32⟩
  | .hbm, ⟨62, _⟩ => ⟨S1024x256, .f32⟩
  | .hbm, ⟨63, _⟩ => ⟨S1024x256, .f32⟩
  | .hbm, ⟨64, _⟩ => ⟨S1024x1, .f32⟩
  | .hbm, ⟨65, _⟩ => ⟨S1x1, .f32⟩
  | .hbm, ⟨66, _⟩ => ⟨S1024x1, .f32⟩
  | .hbm, ⟨67, _⟩ => ⟨S1024x1, .f32⟩
  | .hbm, ⟨68, _⟩ => ⟨S1024, .f32⟩
  | .hbm, ⟨69, _⟩ => ⟨S1024x100000, .f32⟩
  | .hbm, ⟨70, _⟩ => ⟨S1x100000, .f32⟩
  | .hbm, ⟨71, _⟩ => ⟨S1024x100000, .f32⟩
  | .hbm, ⟨72, _⟩ => ⟨S1024x100000, .f32⟩
  | .hbm, ⟨73, _⟩ => ⟨S1024x99328, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_c : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_call2_cst : Ref sig .tc := ⟨.hbm, 54, rfl⟩
abbrev main_call2_v0 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_call3_cst : Ref sig .tc := ⟨.hbm, 61, rfl⟩
abbrev main_call3_v0 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩

abbrev nD : Nat := 1
abbrev τ : Topo := Topo.v7x

variable {F : FTy → Type} [FloatOps F]
-- ==== Proof.Ideal.PoolProg.lean ====
/-
  The pooling task's program, read as thirty-two equal steps. The printed body is a straight line cut into windows at
  fixed statement counts; here it is one recursion: fetch the task's block of ids, start the first four gathers, then
  for each row wait for its gather, add up its fifty gathered rows, store the sum and start the gather four rows on;
  at the end write the block out.
-/
module

public import proofs.«01_k».proof.Defs
public import proofs.«01_k».proof.Proof.Gen.KernelIdeal
public import proofs.«01_k».proof.Proof.Gen.KernelIdeal.Skeleton

@[expose] public section

set_option maxRecDepth 65536

noncomputable section

namespace Cert.Proof.IPoolProg

open Cert.KernelIdeal Cert.KernelIdeal.Gen
open Idealize.ShloMosaic Idealize.SL.Sem

variable {F : FTy → Type} [FloatOps F]

local notation "iV" => (Memref.whole Cert.KernelIdeal.main_arg0_scv : Memref Cert.KernelIdeal.sig Kind.scVector Space.hbm Cert.KernelIdeal.S1024x50 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32x50 EltTy.i32)
local notation "rV" => (Memref.whole Cert.KernelIdeal.cc0_scratch1 : Memref Cert.KernelIdeal.sig Kind.scVector Space.vmem Cert.KernelIdeal.S32x128 EltTy.f32)

/-- The four row buffers of the ring. -/
def ring : Fin 4 → Memref sig .scVector .vmem S50x128 .f32 :=
  ![Memref.whole cc0_scratch2, Memref.whole cc0_scratch3, Memref.whole cc0_scratch4, Memref.whole cc0_scratch5]

/-- Each of the four buffers is a whole array. -/
theorem ring_whole (p : Fin 4) : (ring p).IsWhole := by
  fin_cases p <;> exact Memref.isWhole_whole _

/-- The four semaphores of the ring. -/
def rsem : Fin 4 → DmaSem sig := ![cc0_scratch6.sem, cc0_scratch7.sem, cc0_scratch8.sem, cc0_scratch9.sem]

/-- A row's place in the ring. -/
def slot (r : ℕ) : Fin 4 := ⟨r % 4, Nat.mod_lt _ (by decide)⟩

/-- A row of the ids' block lies in it. -/
theorem row_inb (r : ℕ) (hr : r < 32) : ∀ a, (![r, 0] : Fin 2 → ℕ) a + S1x50.size a ≤ S32x50.size a := by
  intro a; fin_cases a <;> simp [S1x50, S32x50] <;> omega

/-- Sixteen lanes of an output row lie in the block. -/
theorem lane_inb (r k : ℕ) (hr : r < 32) (hk : k + 16 ≤ 128) : ∀ a, (![r, k] : Fin 2 → ℕ) a + S1x16.size a ≤ S32x128.size a := by
  intro a; fin_cases a <;> simp [S1x16, S32x128] <;> omega

/-- Row `r` of the task's ids. -/
abbrev idRow (r : ℕ) (hr : r < 32) : Memref sig .scVector .vmem S50 .i32 :=
  ((sV).slice (Rect.unit (s := S32x50) ![r, 0] S1x50.size (row_inb r hr)) (fun _ => rfl)).squeeze S50 squeezes_S1x50_S50

/-- The table, as a gather names it. -/
abbrev tab : Memref sig .scVector .hbm S100000x128 .f32 :=
  (xV).slice (Rect.unit (s := S100000x128) ![0, 0] S100000x128.size inb_S100000x128_S100000x128_0_0) (fun _ => rfl)

/-- Eight vectors of sixteen lanes: a row of the table as the loop carries it. -/
abbrev Acc (F : FTy → Type) : Type := FVec F S16 .f32 × FVec F S16 .f32 × FVec F S16 .f32 × FVec F S16 .f32 × FVec F S16 .f32 × FVec F S16 .f32 × FVec F S16 .f32 × FVec F S16 .f32

section
variable (L : grid0.Coords)

/-- The programs of the task at grid place `L`. -/
abbrev PT (F : FTy → Type) (L : grid0.Coords) (α : Type) : Type 1 :=
  Prog (TpuEff nD τ sig (Elt F) Λ₀ (.scVector ((L 0).castLE hcore0) ((L 1).castLE hsub0))) α

/-- Start the gather of row `r`. -/
def start (r : ℕ) (hr : r < 32) : PT F L PUnit :=
  SparseCore.enqueueIndirectGather rfl tab (ring (slot r)) gathers_S100000x128_S50x128 (idRow r hr) rfl (rsem (slot r)) (View.wordExact_bits rfl) rfl (Or.inl rfl)

/-- Wait for the gather of row `r`. -/
def await (r : ℕ) : PT F L PUnit :=
  SparseCore.waitIndirectGather (rsem (slot r)) tab (ring (slot r)) (View.wordExact_bits rfl) (ring_whole _).wordExact

/-- One trip of the summing loop over buffer `b`. -/
def trip (b : Memref sig .scVector .vmem S50x128 .f32) (k : Fin k0_t1_loop.trips) (a : Acc F) : PT F L (Acc F) := do
  let v0 : Vec F S1x16 .f32 ← Prog.lift (.load b (Rect.unit (s := S50x128) (k0_off2 k) S1x16.size (k0_off2_inb k)).toLoadRect (View.loadsAt_vmem h_S1x16))
  let v1 : Vec F S1x16 .f32 ← Prog.lift (.load b (Rect.unit (s := S50x128) (k0_off3 k) S1x16.size (k0_off3_inb k)).toLoadRect (View.loadsAt_vmem h_S1x16))
  let v2 : Vec F S1x16 .f32 ← Prog.lift (.load b (Rect.unit (s := S50x128) (k0_off4 k) S1x16.size (k0_off4_inb k)).toLoadRect (View.loadsAt_vmem h_S1x16))
  let v3 : Vec F S1x16 .f32 ← Prog.lift (.load b (Rect.unit (s := S50x128) (k0_off5 k) S1x16.size (k0_off5_inb k)).toLoadRect (View.loadsAt_vmem h_S1x16))
  let v4 : Vec F S1x16 .f32 ← Prog.lift (.load b (Rect.unit (s := S50x128) (k0_off6 k) S1x16.size (k0_off6_inb k)).toLoadRect (View.loadsAt_vmem h_S1x16))
  let v5 : Vec F S1x16 .f32 ← Prog.lift (.load b (Rect.unit (s := S50x128) (k0_off7 k) S1x16.size (k0_off7_inb k)).toLoadRect (View.loadsAt_vmem h_S1x16))
  let v6 : Vec F S1x16 .f32 ← Prog.lift (.load b (Rect.unit (s := S50x128) (k0_off8 k) S1x16.size (k0_off8_inb k)).toLoadRect (View.loadsAt_vmem h_S1x16))
  let v7 : Vec F S1x16 .f32 ← Prog.lift (.load b (Rect.unit (s := S50x128) (k0_off9 k) S1x16.size (k0_off9_inb k)).toLoadRect (View.loadsAt_vmem h_S1x16))
  pure (k0_pay11 a.1 v0, k0_pay11 a.2.1 v1, k0_pay11 a.2.2.1 v2, k0_pay11 a.2.2.2.1 v3, k0_pay11 a.2.2.2.2.1 v4, k0_pay11 a.2.2.2.2.2.1 v5, k0_pay11 a.2.2.2.2.2.2.1 v6, k0_pay11 a.2.2.2.2.2.2.2 v7)

/-- Add up the fifty rows of buffer `b`. -/
def total (b : Memref sig .scVector .vmem S50x128 .f32) : PT F L (Acc F) :=
  Scf.Loop.for k0_t1_loop k0_t1_ok (k0_pay3, k0_pay3, k0_pay3, k0_pay3, k0_pay3, k0_pay3, k0_pay3, k0_pay3) (trip L b)

/-- Store sixteen lanes at `k` of row `r` (the program reads them first and drops what it read), then go on. -/
def put {α : Type} (r k : ℕ) (hr : r < 32) (hk : k + 16 ≤ 128) (v : FVec F S16 .f32) (K : PT F L α) : PT F L α := do
  let _ : Vec F S1x16 .f32 ← Prog.lift (.load rV (Rect.unit (s := S32x128) ![r, k] S1x16.size (lane_inb r k hr hk)).toLoadRect (View.loadsAt_vmem h_S1x16))
  Prog.lift (.store rV (Rect.unit (s := S32x128) ![r, k] S1x16.size (lane_inb r k hr hk)) (k0_pay1 v) Finset.univ (View.stores_vmem_bits_univ h_S1x16 rfl) (.inl rfl))
  K

/-- Store a whole row, then go on. -/
def putRow {α : Type} (r : ℕ) (hr : r < 32) (a : Acc F) (K : PT F L α) : PT F L α :=
  put L r 0 hr (by decide) a.1 <| put L r 16 hr (by decide) a.2.1 <| put L r 32 hr (by decide) a.2.2.1 <|
  put L r 48 hr (by decide) a.2.2.2.1 <| put L r 64 hr (by decide) a.2.2.2.2.1 <| put L r 80 hr (by decide) a.2.2.2.2.2.1 <|
  put L r 96 hr (by decide) a.2.2.2.2.2.2.1 <| put L r 112 hr (by decide) a.2.2.2.2.2.2.2 K

/-- One row: wait, add up, store, start the gather four rows on, go on. -/
def step {α : Type} (r : ℕ) (hr : r < 32) (K : PT F L α) : PT F L α :=
  await L r >>= fun _ => total L (ring (slot r)) >>= fun a => putRow L r hr a <|
    if h : r + 4 < 32 then start L (r + 4) h >>= fun _ => K else K

/-- The rows from `r` on, `n` of them, then `K`. -/
def steps {α : Type} : (n r : ℕ) → r + n ≤ 32 → PT F L α → PT F L α
  | 0, _, _, K => K
  | n + 1, r, h, K => step L r (by omega) (steps n (r + 1) (by omega) K)

/-- Fetch the task's block of ids. -/
def copyIn {α : Type} (K : PT F L α) : PT F L α := do
  let v : Memref sig .scVector .hbm S32x50 .i32 := (iV).slice (Rect.unit (s := S1024x50) (k0_off1 L) S32x50.size (k0_off1_inb L)) (fun _ => rfl)
  Prog.lift (.enqueueDma v (.here sV) (.dma cc0_scoped0.sem) (View.wordExact_bits rfl) (Memref.isWhole_whole _).wordExact ⟨Or.inl rfl, trivial⟩)
  Prog.lift (.waitDma2 cc0_scoped0.sem v sV (View.wordExact_bits rfl) (Memref.isWhole_whole _).wordExact)
  K

/-- Write the task's block of sums out. -/
def copyOut : PT F L PUnit := do
  let v : Memref sig .scVector .hbm S32x128 .f32 := (oV).slice (Rect.unit (s := S1024x128) (k0_off258 L) S32x128.size (k0_off258_inb L)) (fun _ => rfl)
  Prog.lift (.enqueueDma rV (.here v) (.dma cc0_scoped1.sem) (Memref.isWhole_whole _).wordExact (View.wordExact_bits rfl) ⟨Or.inl rfl, trivial⟩)
  Prog.lift (.waitDma2 cc0_scoped1.sem rV v (Memref.isWhole_whole _).wordExact (View.wordExact_bits rfl))
  pure ⟨⟩

/-- The whole task. -/
def prog : PT F L PUnit :=
  copyIn L <| start L 0 (by decide) >>= fun _ => start L 1 (by decide) >>= fun _ => start L 2 (by decide) >>= fun _ => start L 3 (by decide) >>= fun _ =>
    steps L 32 0 (by decide) (copyOut L)

/-- The printed body at the program's buffers. -/
abbrev body : PT F L PUnit :=
  cc0__pool_body L iV (Memref.isWhole_whole _) xV (Memref.isWhole_whole _) oV (Memref.isWhole_whole _) sV (Memref.isWhole_whole _) rV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) cc0_scratch6 cc0_scratch7 cc0_scratch8 cc0_scratch9 cc0_scoped0 cc0_scoped1

end
end Cert.Proof.IPoolProg
-- ==== Proof.Ideal.Setup.lean ====
/-
  The program as the SparseCore launch sees it: its configuration, the ghost algebra (the call handshakes' rounds, the
  two TensorCore pipelines' rounds, the transfers' counters), the arrays of @main and the sum a pooled row is.
-/
module

public import proofs.«01_k».proof.Proof.Ideal.PoolProg
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.ISetup

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The configuration -/

/-- The labels of the program. -/
abbrev ΛP : Labels := Pipeline.Sig Λ₀ (Fin 2) fun p => (pcfgs (F := F) p).Adm
/-- The SparseCore configuration. -/
abbrev K : SparseCore.Cfg τ sig (ΛP (F := F)) 1 := sc (F := F)
/-- Sixteen subcores. -/
theorem nSub_zero : (K (F := F)).nSub 0 = 16 := rfl
/-- Two SparseCores. -/
theorem nCore_zero : (K (F := F)).nCore 0 = 2 := rfl
/-- The definitions of the program. -/
abbrev D [FloatOps F] : Defs nD τ sig (Elt F) (ΛP (F := F)) := Pipeline.defs pcfgs defs₀
/-- No loop needs a variant. -/
abbrev 𝒱₀ : Variants := Variants.none
/-- None in the lifted program. -/
abbrev 𝒱 : Variants := 𝒱₀.lift
/-- The only variant. -/
abbrev v₀ : 𝒱.V := Sum.inl none

/-- The configuration's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The call handshakes' rounds. -/
abbrev UH : Type := URounds (GSem nD τ sig) ℕ
/-- The pipelines' staging rounds. -/
abbrev UP : Type := URounds (GSem nD τ sig) Unit
/-- The ghost state. -/
abbrev UU : Type := UH × (UP × Counters)

/-- The resources. -/
abbrev MM (F : FTy → Type) : Type := MT nD τ sig (SparseCore.Cfg.HIx 1) (Elt F) ℕ UU ℕ

/-- The handshakes' part of the ghost state. -/
abbrev EH : Emb UH (MM F) := embL
/-- The pipelines' part of the ghost state. -/
def EP : Emb UP (MM F) := (Emb.inl : Emb UP (UP × Counters)).trans embR
/-- It lies in the user's part. -/
instance EP_landsIn : (EP (F := F)).LandsIn (upEmb : UEmb _ (MM F)) := by unfold EP; infer_instance

end Cert.Proof.ISetup
-- ==== Proof.Ideal.Sum.lean ====
module

public import proofs.«01_k».proof.Proof.Ideal.Setup
public import Idealize.ShloMosaic.Lib.ValueIdxCore
public import Idealize.ShloMosaic.Lib.Pipeline.Value

@[expose] public section

noncomputable section

namespace Cert.Proof.ITile

open Cert.KernelIdeal Cert.KernelIdeal.Gen Cert.Proof.ISetup Cert.Proof.IPoolProg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MM F
local notation "iV" => (Memref.whole Cert.KernelIdeal.main_arg0_scv : Memref Cert.KernelIdeal.sig Kind.scVector Space.hbm Cert.KernelIdeal.S1024x50 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32x50 EltTy.i32)
local notation "rV" => (Memref.whole Cert.KernelIdeal.cc0_scratch1 : Memref Cert.KernelIdeal.sig Kind.scVector Space.vmem Cert.KernelIdeal.S32x128 EltTy.f32)

section Tile
variable (d : Dev nD) (L : grid0.Coords)

/-- The task's SparseCore. -/
abbrev cV (L : grid0.Coords) : Fin τ.nSC := (L 0).castLE hcore0
/-- The task's subcore. -/
abbrev jV (L : grid0.Coords) : Fin τ.nSub := (L 1).castLE hsub0
/-- The task's thread. -/
abbrev thr (d : Dev nD) (L : grid0.Coords) : Thread nD τ := V d (cV L) (jV L)

/-! ### Storing sixteen lanes -/

/-- The row buffer with sixteen lanes of row `r` from column `k` on replaced. -/
def putG (g : S32x128.Idx → F .f32) (r k : ℕ) (v : S16.Idx → F .f32) : S32x128.Idx → F .f32 := fun i =>
  if h : (i 0).val = r ∧ k ≤ (i 1).val ∧ (i 1).val < k + 16 then v (ix1 (⟨(i 1).val - k, by omega⟩ : Fin 16)) else g i

/-- A store of sixteen lanes changes just those. -/
theorem putG_writes (g : S32x128.Idx → F .f32) (r k : ℕ) (hr : r < 32) (hk : k + 16 ≤ 128) (v : FVec F S16 .f32) :
    (rV).view.writes (Elt F) g [⟨Rect.unit (s := S32x128) ![r, k] S1x16.size (lane_inb r k hr hk), k0_pay1 v⟩] = putG g r k v := by
  funext i
  rw [← congrFun (View.read_whole (Val := Elt F) cc0_scratch1 ((rV).view.writes (Elt F) g _)) i]
  unfold putG
  split
  · rename_i h
    rw [View.read_writes_cons_hit_of_coords _ _ _ _ _ (ix2 (⟨0, by decide⟩ : Fin 1) (⟨(i 1).val - k, by omega⟩ : Fin 16)) i (by
      intro a
      match a with
      | ⟨0, _⟩ => show (i 0).val = r + 1 * 0; omega
      | ⟨1, _⟩ => show (i 1).val = k + 1 * ((i 1).val - k); omega)]
    unfold k0_pay1
    refine (shapeCast_addUnit_apply ![16] v _ _).trans (congrArg v ?_)
    funext a; match a with | ⟨0, _⟩ => rfl
  · rename_i h
    by_cases h0 : (i 0).val = r
    · rw [View.read_writes_cons_miss_of_axis _ _ _ _ _ 1 k 16 rfl rfl rfl (by omega)]; rfl
    · rw [View.read_writes_cons_miss_of_axis _ _ _ _ _ 0 r 1 rfl rfl rfl (by omega)]; rfl

/-- The store of sixteen lanes. -/
theorem wp_put {α : Type} (g : S32x128.Idx → F .f32) (r k : ℕ) (hr : r < 32) (hk : k + 16 ≤ 128) (v : FVec F S16 .f32)
    (C : PT F L α) (Q : α → sProp 𝕄) :
    ((rV).view.loc (thr d L) ↦{fullShare} g : sProp 𝕄)
      ⊢ iprop((((rV).view.loc (thr d L) ↦{fullShare} putG g r k v)
            -∗ wp frame (wpE (defs₀ (F := F)) 𝒱₀ (thr d L) none) Set.univ C Q)
          -∗ wp frame (wpE (defs₀ (F := F)) 𝒱₀ (thr d L) none) Set.univ (put L r k hr hk v C) Q) := by
  unfold put
  iintro H Hk
  sl_exec
  iapply Hk
  rw [← putG_writes g r k hr hk v]
  iexact H

/-! ### Adding up the fifty gathered rows -/

/-- The sum of the first `n` values of `f`, in order, from zero. -/
def sumTo (f : ℕ → F .f32) : ℕ → F .f32
  | 0 => Scalar.ofBits .f32 0x00000000#32
  | n + 1 => FloatOps.addf (sumTo f n) (f n)

/-- Element `(l, c)` of a gathered block, zero outside it. -/
def atG (G : S50x128.Idx → F .f32) (l c : ℕ) : F .f32 :=
  if h : l < 50 ∧ c < 128 then G (ix2 (⟨l, h.1⟩ : Fin 50) (⟨c, h.2⟩ : Fin 128)) else Scalar.ofBits .f32 0x00000000#32

/-- Inside the block. -/
theorem atG_pos (G : S50x128.Idx → F .f32) (l c : ℕ) (hl : l < 50) (hc : c < 128) : G (ix2 (⟨l, hl⟩ : Fin 50) (⟨c, hc⟩ : Fin 128)) = atG G l c := by
  unfold atG; rw [dif_pos (⟨hl, hc⟩ : l < 50 ∧ c < 128)]

/-- Sixteen lanes from column `k` on, of the sum of the first `n` rows. -/
def accV (G : S50x128.Idx → F .f32) (n k : ℕ) : FVec F S16 .f32 := fun x => sumTo (fun l => atG G l (k + (x 0).val)) n

/-- The loop's carried values after `n` trips. -/
def accs (G : S50x128.Idx → F .f32) (n : ℕ) : Acc F :=
  (accV G n 0, accV G n 16, accV G n 32, accV G n 48, accV G n 64, accV G n 80, accV G n 96, accV G n 112)

/-- One more row added to the sums. -/
theorem accV_succ (b : Memref sig .scVector .vmem S50x128 .f32) (f : Buf (Elt F) (b.view.loc (thr d L))) (n k : ℕ) (hn : n < 50) (hk : k + 16 ≤ 128)
    (off : Fin 2 → ℕ) (h : ∀ a, off a + S1x16.size a ≤ S50x128.size a) (hoff : off = ![n, k]) :
    k0_pay11 (accV (b.view.read (Elt F) f) n k) (View.readAt (Elt F) b.view (Rect.unit (s := S50x128) off S1x16.size h).toLoadRect f)
      = accV (b.view.read (Elt F) f) (n + 1) k := by
  subst hoff
  funext x
  have hx : (x 0).val < 16 := (x 0).isLt
  unfold k0_pay11
  refine congrArg (FloatOps.addf (F := F) (φ := .f32) (accV (b.view.read (Elt F) f) n k x)) ?_
  refine (shapeCast_dropUnit_apply ![16] _ _ _).trans ?_
  refine Eq.trans ?_ (atG_pos (b.view.read (Elt F) f) n (k + (x 0).val) hn (by omega))
  rw [View.readAt_apply]
  congr 1
  funext a
  match a with
  | ⟨0, _⟩ => exact Fin.ext (show n + 1 * 0 = n by omega)
  | ⟨1, _⟩ => exact Fin.ext (show k + 1 * (x 0).val = k + (x 0).val by omega)

/-- The loop runs fifty times. -/
theorem trips_eq : k0_t1_loop.trips = 50 := by decide +kernel

/-- One trip of the loop. -/
theorem wp_trip (b : Memref sig .scVector .vmem S50x128 .f32) (f : Buf (Elt F) (b.view.loc (thr d L))) (k : Fin k0_t1_loop.trips) (a : Acc F) :
    iprop(⌜a = accs (b.view.read (Elt F) f) k.val⌝ ∗ (b.view.loc (thr d L) ↦[b.view.set]{fullShare} f) : sProp 𝕄)
      ⊢ wp frame (wpE (defs₀ (F := F)) 𝒱₀ (thr d L) none) Set.univ (trip L b k a)
        fun a' => iprop(⌜a' = accs (b.view.read (Elt F) f) (k.val + 1)⌝ ∗ (b.view.loc (thr d L) ↦[b.view.set]{fullShare} f)) := by
  have hk : k.val < 50 := lt_of_lt_of_eq k.isLt trips_eq
  unfold trip
  iintro ⟨%ha, H⟩
  subst ha
  sl_exec
  sl_step
  isplitr
  · ipureintro
    simp only [accs]
    rw [accV_succ d L b f k.val 0 hk (by decide) _ _ (k0_off2_eq k), accV_succ d L b f k.val 16 hk (by decide) _ _ (k0_off3_eq k),
      accV_succ d L b f k.val 32 hk (by decide) _ _ (k0_off4_eq k), accV_succ d L b f k.val 48 hk (by decide) _ _ (k0_off5_eq k),
      accV_succ d L b f k.val 64 hk (by decide) _ _ (k0_off6_eq k), accV_succ d L b f k.val 80 hk (by decide) _ _ (k0_off7_eq k),
      accV_succ d L b f k.val 96 hk (by decide) _ _ (k0_off8_eq k), accV_succ d L b f k.val 112 hk (by decide) _ _ (k0_off9_eq k)]
  · iexact H

/-- The whole loop. -/
theorem wp_total {α : Type} (b : Memref sig .scVector .vmem S50x128 .f32) (f : Buf (Elt F) (b.view.loc (thr d L))) (kk : Acc F → PT F L α) (Q : α → sProp 𝕄) :
    (b.view.loc (thr d L) ↦[b.view.set]{fullShare} f : sProp 𝕄)
      ⊢ iprop(((b.view.loc (thr d L) ↦[b.view.set]{fullShare} f)
            -∗ wp frame (wpE (defs₀ (F := F)) 𝒱₀ (thr d L) none) Set.univ (kk (accs (b.view.read (Elt F) f) 50)) Q)
          -∗ wp frame (wpE (defs₀ (F := F)) 𝒱₀ (thr d L) none) Set.univ (total L b >>= kk) Q) := by
  unfold total
  iintro H Hk
  iapply (Scf.wp_for_bind frame (wpE (defs₀ (F := F)) 𝒱₀ (thr d L) none) Set.univ _ _ _ k0_t1_ok _ (trip L b)
    (fun n a => iprop(⌜a = accs (b.view.read (Elt F) f) n⌝ ∗ (b.view.loc (thr d L) ↦[b.view.set]{fullShare} f)))
    (fun k a => wp_trip d L b f k a)) $$ [H]
  · isplitr
    · ipureintro; rfl
    · iexact H
  iintro %a ⟨%ha, H⟩
  rw [show Scf.trips _ _ _ = 50 from trips_eq] at ha
  subst ha
  iapply Hk; iexact H

/-! ### Storing a row -/

/-- The row buffer with row `r` replaced. -/
def rowG (g : S32x128.Idx → F .f32) (r : ℕ) (w : ℕ → F .f32) : S32x128.Idx → F .f32 := fun i =>
  if (i 0).val = r then w (i 1).val else g i

/-- The row buffer with row `r` replaced up to column `k`. -/
def partG (g : S32x128.Idx → F .f32) (r k : ℕ) (w : ℕ → F .f32) : S32x128.Idx → F .f32 := fun i =>
  if (i 0).val = r ∧ (i 1).val < k then w (i 1).val else g i

/-- Sixteen more lanes of the row stored. -/
theorem putG_partG (g : S32x128.Idx → F .f32) (r k k' : ℕ) (hk : k + 16 = k') (G : S50x128.Idx → F .f32) :
    putG (partG g r k fun c => sumTo (fun l => atG G l c) 50) r k (accV G 50 k) = partG g r k' fun c => sumTo (fun l => atG G l c) 50 := by
  funext i
  subst hk
  simp only [putG, partG, accV]
  by_cases h0 : (i 0).val = r
  · by_cases h1 : (i 1).val < k
    · rw [dif_neg (by omega), if_pos ⟨h0, h1⟩, if_pos ⟨h0, by omega⟩]
    · by_cases h2 : (i 1).val < k + 16
      · rw [dif_pos ⟨h0, by omega, h2⟩, if_pos ⟨h0, h2⟩]
        show sumTo (fun l => atG G l (k + ((i 1).val - k))) 50 = _
        rw [Nat.add_sub_cancel' (by omega)]
      · rw [dif_neg (by omega), if_neg (by omega), if_neg (by omega)]
  · rw [dif_neg (by omega), if_neg (by omega), if_neg (by omega)]

/-- No lanes stored. -/
theorem partG_zero (g : S32x128.Idx → F .f32) (r : ℕ) (w : ℕ → F .f32) : partG g r 0 w = g := by
  funext i; exact if_neg (by omega)

/-- All lanes stored. -/
theorem partG_all (g : S32x128.Idx → F .f32) (r : ℕ) (w : ℕ → F .f32) : partG g r 128 w = rowG g r w := by
  funext i
  have hi : (i 1).val < 128 := (i 1).isLt
  unfold partG rowG
  by_cases h0 : (i 0).val = r
  · rw [if_pos ⟨h0, hi⟩, if_pos h0]
  · rw [if_neg (by omega), if_neg h0]

/-- The first sixteen lanes stored. -/
theorem putG_first (g : S32x128.Idx → F .f32) (r : ℕ) (G : S50x128.Idx → F .f32) :
    putG g r 0 (accV G 50 0) = partG g r 16 fun c => sumTo (fun l => atG G l c) 50 := by
  have h := putG_partG g r 0 16 rfl G
  rwa [partG_zero] at h

/-- The eight stores of a row. -/
theorem wp_putRow {α : Type} (g : S32x128.Idx → F .f32) (r : ℕ) (hr : r < 32) (G : S50x128.Idx → F .f32)
    (C : PT F L α) (Q : α → sProp 𝕄) :
    ((rV).view.loc (thr d L) ↦{fullShare} g : sProp 𝕄)
      ⊢ iprop((((rV).view.loc (thr d L) ↦{fullShare} rowG g r fun c => sumTo (fun l => atG G l c) 50)
            -∗ wp frame (wpE (defs₀ (F := F)) 𝒱₀ (thr d L) none) Set.univ C Q)
          -∗ wp frame (wpE (defs₀ (F := F)) 𝒱₀ (thr d L) none) Set.univ (putRow L r hr (accs G 50) C) Q) := by
  unfold putRow
  iintro H Hk
  iapply (wp_put d L _ r 0 hr _ _ _ _) $$ [H]
  · iexact H
  iintro H; simp only [accs]; rw [putG_first g r G]
  iapply (wp_put d L _ r 16 hr _ _ _ _) $$ [H]
  · iexact H
  iintro H; rw [putG_partG g r 16 32 rfl G]
  iapply (wp_put d L _ r 32 hr _ _ _ _) $$ [H]
  · iexact H
  iintro H; rw [putG_partG g r 32 48 rfl G]
  iapply (wp_put d L _ r 48 hr _ _ _ _) $$ [H]
  · iexact H
  iintro H; rw [putG_partG g r 48 64 rfl G]
  iapply (wp_put d L _ r 64 hr _ _ _ _) $$ [H]
  · iexact H
  iintro H; rw [putG_partG g r 64 80 rfl G]
  iapply (wp_put d L _ r 80 hr _ _ _ _) $$ [H]
  · iexact H
  iintro H; rw [putG_partG g r 80 96 rfl G]
  iapply (wp_put d L _ r 96 hr _ _ _ _) $$ [H]
  · iexact H
  iintro H; rw [putG_partG g r 96 112 rfl G]
  iapply (wp_put d L _ r 112 hr _ _ _ _) $$ [H]
  · iexact H
  iintro H; rw [putG_partG g r 112 128 rfl G]
  rw [partG_all]
  iapply Hk; iexact H

end Tile
end Cert.Proof.ITile
-- ==== Proof.Ideal.Ring.lean ====
module

public import proofs.«01_k».proof.Proof.Ideal.Sum
public import Idealize.ShloMosaic.Lib.ValueIdxCore
public import Idealize.ShloMosaic.Lib.ShareLeaves
public import Idealize.ShloMosaic.Lib.Pipeline.Value

@[expose] public section

noncomputable section

namespace Cert.Proof.ITile

open Cert.KernelIdeal Cert.KernelIdeal.Gen Cert.Proof.ISetup Cert.Proof.IPoolProg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)

variable {F : FTy → Type} [FloatOps F]

local notation "𝕄" => MM F
local notation "iV" => (Memref.whole Cert.KernelIdeal.main_arg0_scv : Memref Cert.KernelIdeal.sig Kind.scVector Space.hbm Cert.KernelIdeal.S1024x50 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32x50 EltTy.i32)
local notation "rV" => (Memref.whole Cert.KernelIdeal.cc0_scratch1 : Memref Cert.KernelIdeal.sig Kind.scVector Space.vmem Cert.KernelIdeal.S32x128 EltTy.f32)

section Tile
variable (d : Dev nD) (L : grid0.Coords)

/-! ### What a gather fetches -/

/-- Element `(n, c)` of the table, zero outside it. -/
def tabAt (E : S100000x128.Idx → F .f32) (n c : ℕ) : F .f32 :=
  if h : n < 100000 ∧ c < 128 then E (ix2 (⟨n, h.1⟩ : Fin 100000) (⟨c, h.2⟩ : Fin 128)) else Scalar.ofBits .f32 0x00000000#32

/-- The number in place `(r, l)` of a block of ids, zero outside it. -/
def idAt (X : S32x50.Idx → BitVec 32) (r l : ℕ) : ℕ :=
  if h : r < 32 ∧ l < 50 then (X (ix2 (⟨r, h.1⟩ : Fin 32) (⟨l, h.2⟩ : Fin 50))).toNat else 0

/-- Column `c` of the sum of the fifty rows of the table that row `r` of the ids names. -/
def rowSum (E : S100000x128.Idx → F .f32) (X : S32x50.Idx → BitVec 32) (r c : ℕ) : F .f32 :=
  sumTo (fun l => tabAt E (idAt X r l) c) 50

/-- Equal terms have equal sums. -/
theorem sumTo_congr (f g : ℕ → F .f32) : ∀ n, (∀ l, l < n → f l = g l) → sumTo f n = sumTo g n
  | 0, _ => rfl
  | n + 1, h => by rw [sumTo, sumTo, sumTo_congr f g n fun l hl => h l (by omega), h n (by omega)]

omit [FloatOps F] in
/-- Row `r` of the ids' block, read. -/
theorem read_idRow (X : S32x50.Idx → BitVec 32) (r : ℕ) (hr : r < 32) (x : S50.Idx) :
    (idRow r hr).view.read (Elt F) X x = X (ix2 (⟨r, hr⟩ : Fin 32) (⟨(x 0).val, (x 0).isLt⟩ : Fin 50)) := by
  refine (congrFun (Memref.read_squeeze_slice (Val := Elt F) sV (Rect.unit (s := S32x50) ![r, 0] S1x50.size (row_inb r hr)) (fun _ => rfl)
    squeezes_S1x50_S50 (show S1x50.ShapeCasts S50 by decide) X) x).trans ?_
  refine (shapeCast_dropUnit_apply ![50] _ _ _).trans ?_
  rw [View.readAt_apply]
  refine (cast_eq _ _).trans (congrArg X ?_)
  funext a
  match a with
  | ⟨0, _⟩ => exact Fin.ext (show r + 1 * 0 = r by omega)
  | ⟨1, _⟩ => exact Fin.ext (show 0 + 1 * (x 0).val = (x 0).val by omega)

variable (E : S100000x128.Idx → F .f32) (X : S32x50.Idx → BitVec 32)

omit [FloatOps F] in
/-- The ids of a row name rows of the table. -/
theorem inRange (hX : ∀ i, (X i).toNat < 100000) (r : ℕ) (hr : r < 32) :
    ∀ x, ((idRow r hr).view.read (Elt F) X x).toNat < S100000x128.size gathers_S100000x128_S50x128.axis := fun x => by
  rw [read_idRow]; exact hX _

/-- What the gather of row `r` writes. -/
def pay (hX : ∀ i, (X i).toNat < 100000) (r : ℕ) (hr : r < 32) : S50x128.Idx → F .f32 :=
  SparseCore.gatherPayload gathers_S100000x128_S50x128 ((tab).view.read (Elt F) E)
    (SparseCore.rows ((idRow r hr).view.read (Elt F) X) (rfl : S50.numel = S50x128.size gathers_S100000x128_S50x128.axis') (inRange X hX r hr))

/-- An element of the gathered block is the table's at the id. -/
theorem atG_pay (hX : ∀ i, (X i).toNat < 100000) (r : ℕ) (hr : r < 32) (l c : ℕ) (hl : l < 50) (hc : c < 128) :
    atG (pay E X hX r hr) l c = tabAt E (idAt X r l) c := by
  rw [← atG_pos _ _ _ hl hc]
  have hid : idAt X r l = (X (ix2 (⟨r, hr⟩ : Fin 32) (⟨l, hl⟩ : Fin 50))).toNat := by
    unfold idAt; rw [dif_pos (⟨hr, hl⟩ : r < 32 ∧ l < 50)]
  unfold tabAt
  rw [dif_pos (⟨by rw [hid]; exact hX _, hc⟩ : idAt X r l < 100000 ∧ c < 128)]
  unfold pay SparseCore.gatherPayload
  rw [View.read_apply]
  refine (cast_eq _ _).trans (congrArg E ?_)
  funext a
  match a with
  | ⟨0, _⟩ =>
    refine Fin.ext ?_
    show 0 + 1 * (Shape.Gathers.idx _ _ _ 0).val = idAt X r l
    rw [hid, Nat.zero_add, Nat.one_mul]
    refine (congrArg Fin.val (Shape.Gathers.idx_axis gathers_S100000x128_S50x128 _ _)).trans ?_
    show ((idRow r hr).view.read (Elt F) X (S50.rowMajor.symm _)).toNat = _
    rw [read_idRow]
    refine congrArg (fun k : Fin 50 => (X (ix2 (⟨r, hr⟩ : Fin 32) k)).toNat) (Fin.ext ?_)
    refine (Shape.rowMajor_val_one (S50.rowMajor.symm _)).symm.trans ?_
    rw [Equiv.apply_symm_apply]
    rfl
  | ⟨1, _⟩ =>
    refine Fin.ext ?_
    show 0 + 1 * (Shape.Gathers.idx _ _ _ 1).val = c
    rw [Shape.Gathers.idx_of_ne _ _ _ _ (by decide)]
    show 0 + 1 * c = c
    omega

/-- So the sum over the block is the sum of the table's rows. -/
theorem rowSum_pay (hX : ∀ i, (X i).toNat < 100000) (r : ℕ) (hr : r < 32) (c : ℕ) (hc : c < 128) :
    sumTo (fun l => atG (pay E X hX r hr) l c) 50 = rowSum E X r c :=
  sumTo_congr _ _ 50 fun l hl => atG_pay E X hX r hr l c hl hc

/-- The row buffer with the rows before `r` replaced by the sums. -/
def doneG (g : S32x128.Idx → F .f32) (r : ℕ) : S32x128.Idx → F .f32 := fun i =>
  if (i 0).val < r then rowSum E X (i 0).val (i 1).val else g i

/-- One more row stored. -/
theorem rowG_doneG (hX : ∀ i, (X i).toNat < 100000) (g : S32x128.Idx → F .f32) (r : ℕ) (hr : r < 32) :
    rowG (doneG E X g r) r (fun c => sumTo (fun l => atG (pay E X hX r hr) l c) 50) = doneG E X g (r + 1) := by
  funext i
  have hi : (i 1).val < 128 := (i 1).isLt
  unfold rowG doneG
  by_cases h0 : (i 0).val = r
  · rw [if_pos h0, if_pos (by omega), h0]; exact rowSum_pay E X hX r hr _ hi
  · by_cases h1 : (i 0).val < r
    · rw [if_neg h0, if_pos h1, if_pos (by omega)]
    · rw [if_neg h0, if_neg h1, if_neg (by omega)]

/-! ### The ring of four -/

variable (q : PosShare TreeShare)

/-- What a gather into place `p` counts at its semaphore. -/
abbrev credit (p : Fin 4) : ℕ := (ring p).view.dmaCredit

/-- A gather's copy raises its semaphore by its words. -/
theorem credit_sum : ∀ (p : Fin 4) (h : S100000x128.Gathers 0 S50x128),
    ∑ j, ((ring p).slice (S50x128.rowRect h.axis' j) (S50x128.stride_rowRect h.axis' j)).view.dmaCredit = credit p := by decide

/-- Place `p` of the ring with no gather under way. -/
def Free (p : Fin 4) : sProp 𝕄 :=
  iprop((∃ f, (ring p).view.loc (thr d L) ↦[(ring p).view.set]{fullShare} f) ∗ ((tab).view.loc (thr d L) ↦[(tab).view.set]{leaf 2 q p} E)
    ∗ ((sV).view.loc (thr d L) ↦[Finset.univ]{leaf 2 fullShare p} X) ∗ semVal (thr d L, SemLoc.dma (rsem p)) 0)

/-- Place `p` of the ring with the gather of row `r` under way. -/
def Busy (hX : ∀ i, (X i).toNat < 100000) (p : Fin 4) (r : ℕ) (hr : r < 32) : sProp 𝕄 :=
  iprop((∃ fd, Transfers.Flight (countersEmb : UEmb Counters 𝕄) (thr d L) (.dma (rsem p)) default (credit p)
      iprop(((ring p).view.loc (thr d L) ↦[(ring p).view.set]{fullShare} (ring p).view.write (Elt F) fd (pay E X hX r hr) Finset.univ)
        ∗ ((tab).view.loc (thr d L) ↦[(tab).view.set]{leaf 2 q p} E) ∗ ((idRow r hr).view.loc (thr d L) ↦[(idRow r hr).view.set]{leaf 2 fullShare p} X)))
    ∗ ((sV).view.loc (thr d L) ↦[Finset.univ \ (idRow r hr).view.set]{leaf 2 fullShare p} X))

/-- Place `p` with the gather of row `r` under way, with none for `r` past the last row. -/
def At (hX : ∀ i, (X i).toNat < 100000) (p : Fin 4) (r : ℕ) : sProp 𝕄 := if hr : r < 32 then Busy d L E X q hX p r hr else Free d L E X q p

/-- The whole ring. -/
def Ring (hX : ∀ i, (X i).toNat < 100000) (g : Fin 4 → ℕ) : sProp 𝕄 := bigSep Finset.univ fun p => At d L E X q hX p (g p)

/-- A buffer whose row is still one of the block's is in flight. -/
theorem At_pos (hX : ∀ i, (X i).toNat < 100000) (p : Fin 4) (r : ℕ) (hr : r < 32) : At d L E X q hX p r = Busy d L E X q hX p r hr := dif_pos hr
/-- A buffer past the last row is free. -/
theorem At_neg (hX : ∀ i, (X i).toNat < 100000) (p : Fin 4) (r : ℕ) (hr : ¬ r < 32) : At d L E X q hX p r = Free d L E X q p := dif_neg hr

/-- One buffer taken out of the ring. -/
theorem Ring_split (hX : ∀ i, (X i).toNat < 100000) (g : Fin 4 → ℕ) (p : Fin 4) :
    Ring d L E X q hX g = iprop(At d L E X q hX p (g p) ∗ bigSep (Finset.univ.erase p) fun p => At d L E X q hX p (g p)) :=
  SparseCore.bigSep_erase' (Finset.mem_univ p)

/-- And put back. -/
theorem Ring_put (hX : ∀ i, (X i).toNat < 100000) (g : Fin 4 → ℕ) (p : Fin 4) (r : ℕ) :
    iprop(At d L E X q hX p r ∗ bigSep (Finset.univ.erase p) fun p => At d L E X q hX p (g p)) = Ring d L E X q hX (Function.update g p r) := by
  rw [Ring_split d L E X q hX _ p, Function.update_self]
  congr 1
  refine bigSep_congr fun p' hp' => ?_
  rw [Function.update_of_ne (Finset.ne_of_mem_erase hp')]

/-- Starting the gather of row `r`. -/
theorem wp_start {α : Type} (hX : ∀ i, (X i).toNat < 100000) (r : ℕ) (hr : r < 32) (g : Fin 4 → ℕ) (hg : ¬ g (slot r) < 32)
    (K : PUnit → PT F L α) (Q : α → sProp 𝕄) :
    (Ring d L E X q hX g : sProp 𝕄)
      ⊢ iprop((Ring d L E X q hX (Function.update g (slot r) r) -∗ wp frame (wpE (defs₀ (F := F)) 𝒱₀ (thr d L) none) Set.univ (K ⟨⟩) Q)
          -∗ wp frame (wpE (defs₀ (F := F)) 𝒱₀ (thr d L) none) Set.univ (start L r hr >>= K) Q) := by
  rw [Ring_split d L E X q hX g (slot r), At_neg _ _ _ _ _ _ _ _ hg, ← Ring_put, At_pos _ _ _ _ _ _ _ _ hr]
  unfold Free Busy start
  iintro ⟨⟨⟨%f, Hf⟩, Ht, Hs, Hv⟩, Hrest⟩ Hk
  ihave Hss := (pointsTo_split_subset (q := leaf 2 fullShare (slot r)) (f := X) (S := Finset.univ) (Finset.subset_univ (idRow r hr).view.set)).1 $$ Hs
  icases Hss with ⟨Hs, Hs'⟩
  iapply (SparseCore.wp_indirectGatherLocal countersEmb 𝒱₀ (thr d L) none (hg := gathers_S100000x128_S50x128) (default : HIx 1)
      (credit (slot r)) (credit_sum _ _) (by decide) (inRange X hX r hr)) $$ [Hf Ht Hs Hv]
  · isplitl [Ht]; · iexact Ht
    isplitl [Hf]; · iexact Hf
    isplitl [Hs]; · iexact Hs
    iexact Hv
  iintro Hfl
  iapply Hk
  isplitr [Hrest]
  · isplitl [Hfl]
    · iexists f; iexact Hfl
    · iexact Hs'
  · iexact Hrest

/-- What a wait of the task leaves of the thread's dues. -/
def Owes (O : CellTallies nD τ sig (HIx 1)) (W : Waits sig (HIx 1)) : sProp 𝕄 :=
  iprop(∃ W', ⌜∀ p ∈ W', p ∈ W ∨ p.2 = none⌝ ∗ owes (thr d L) O W')

/-- Waiting for the gather of row `r`. -/
theorem wp_await {α : Type} (hX : ∀ i, (X i).toNat < 100000) (O : CellTallies nD τ sig (HIx 1)) (W : Waits sig (HIx 1)) (r : ℕ) (hr : r < 32) (p : Fin 4) (hp : slot r = p)
    (K : PUnit → PT F L α) (Q : α → sProp 𝕄) :
    iprop(Transfers.MayWaits (thr d L) (default : HIx 1) O ∗ Owes d L O W ∗ Busy d L E X q hX p r hr : sProp 𝕄)
      ⊢ iprop((iprop(Owes d L O W ∗ (∃ f, ⌜(ring p).view.read (Elt F) f = pay E X hX r hr⌝ ∗ (ring p).view.loc (thr d L) ↦[(ring p).view.set]{fullShare} f)
              ∗ ((tab).view.loc (thr d L) ↦[(tab).view.set]{leaf 2 q p} E)
              ∗ ((sV).view.loc (thr d L) ↦[Finset.univ]{leaf 2 fullShare p} X) ∗ semVal (thr d L, SemLoc.dma (rsem p)) 0)
            -∗ wp frame (wpE (defs₀ (F := F)) 𝒱₀ (thr d L) none) Set.univ (K ⟨⟩) Q)
          -∗ wp frame (wpE (defs₀ (F := F)) 𝒱₀ (thr d L) none) Set.univ (await L r >>= K) Q) := by
  subst hp
  unfold Busy Owes await
  iintro ⟨#Hmw, ⟨%W', %hW, HO⟩, ⟨%fd, Hfl⟩, Hs'⟩ Hk
  iapply (Transfers.wp_waitLocalO countersEmb 𝒱₀ (thr d L) none (default : HIx 1) (rfl : (ring (slot r)).view.dmaCredit = _)) $$ [Hfl HO]
  · isplitl [Hfl]; · iexact Hfl
    isplitl [HO]; · iexact HO
    iapply (Transfers.MayWaits.elim (SemLoc.dma (rsem (slot r)))) $$ Hmw
  iintro ⟨⟨Hf, Ht, Hs⟩, Hv, HO⟩
  ihave Hs2 := (pointsTo_split_subset (ℓ := (sV).view.loc (thr d L)) (I := (idRow r hr).view.set) (q := leaf 2 fullShare (slot r)) (f := X) (S := Finset.univ) (Finset.subset_univ (idRow r hr).view.set)).2 $$ [Hs Hs']
  · isplitl [Hs] <;> iassumption
  iapply Hk
  isplitl [HO]
  · iexists _; isplitr
    swap; · iexact HO
    ipureintro; intro p hp
    rcases Finset.mem_insert.mp hp with hp | hp
    · exact .inr (hp ▸ rfl)
    · exact hW p hp
  isplitl [Hf]
  · iexists _; isplitr
    swap; · iexact Hf
    ipureintro; exact View.read_write_univ _ _
  isplitl [Ht]; · iexact Ht
  isplitl [Hs2]; · iexact Hs2
  iexact Hv

end Tile
end Cert.Proof.ITile
-- ==== Proof.Ideal.Steps.lean ====
module

public import proofs.«01_k».proof.Proof.Ideal.Ring
public import Idealize.ShloMosaic.Lib.ValueIdxCore
public import Idealize.ShloMosaic.Lib.ShareLeaves
public import Idealize.ShloMosaic.Lib.Pipeline.Value

@[expose] public section

noncomputable section

namespace Cert.Proof.ITile

open Cert.KernelIdeal Cert.KernelIdeal.Gen Cert.Proof.ISetup Cert.Proof.IPoolProg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)

variable {F : FTy → Type} [FloatOps F]

local notation "𝕄" => MM F
local notation "iV" => (Memref.whole Cert.KernelIdeal.main_arg0_scv : Memref Cert.KernelIdeal.sig Kind.scVector Space.hbm Cert.KernelIdeal.S1024x50 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32x50 EltTy.i32)
local notation "rV" => (Memref.whole Cert.KernelIdeal.cc0_scratch1 : Memref Cert.KernelIdeal.sig Kind.scVector Space.vmem Cert.KernelIdeal.S32x128 EltTy.f32)

section Tile
variable (d : Dev nD) (L : grid0.Coords)
variable (E : S100000x128.Idx → F .f32) (X : S32x50.Idx → BitVec 32) (q : PosShare TreeShare)

/-- The row whose gather is, or is next to be, under way at place `p` when row `r` is to be added up. -/
def nxt (r : ℕ) (p : Fin 4) : ℕ := r + (p.val + 4 - r % 4) % 4

/-- At step `r` the slot of `r` carries row `r`. -/
theorem nxt_slot (r : ℕ) : nxt r (slot r) = r := by
  show r + (r % 4 + 4 - r % 4) % 4 = r
  omega

/-- A step leaves the other slots. -/
theorem nxt_succ (r : ℕ) (p : Fin 4) (h : p ≠ slot r) : nxt (r + 1) p = nxt r p := by
  have hp : p.val ≠ r % 4 := fun e => h (Fin.ext e)
  have h4 := p.isLt
  unfold nxt
  omega

/-- A step moves its own slot four rows on. -/
theorem nxt_succ_slot (r : ℕ) : nxt (r + 1) (slot r) = r + 4 := by
  show r + 1 + (r % 4 + 4 - (r + 1) % 4) % 4 = r + 4
  omega

/-- Slots past the last row are alike. -/
theorem Ring_congr (hX : ∀ i, (X i).toNat < 100000) (g g' : Fin 4 → ℕ) (h : ∀ p, g p = g' p ∨ (¬ g p < 32 ∧ ¬ g' p < 32)) :
    Ring d L E X q hX g = Ring d L E X q hX g' := by
  unfold Ring
  refine bigSep_congr fun p _ => ?_
  rcases h p with h | ⟨h, h'⟩
  · rw [h]
  · rw [At_neg _ _ _ _ _ _ _ _ h, At_neg _ _ _ _ _ _ _ _ h']

/-- One step: wait for row `r`, sum it, store it, start row `r + 4`. -/
theorem wp_step {α : Type} (hX : ∀ i, (X i).toNat < 100000) (O : CellTallies nD τ sig (HIx 1)) (W : Waits sig (HIx 1)) (r : ℕ) (hr : r < 32)
    (g : S32x128.Idx → F .f32) (K : PT F L α) (Q : α → sProp 𝕄) :
    iprop(Transfers.MayWaits (thr d L) (default : HIx 1) O ∗ Owes d L O W ∗ Ring d L E X q hX (nxt r)
        ∗ ((rV).view.loc (thr d L) ↦{fullShare} doneG E X g r) : sProp 𝕄)
      ⊢ iprop((iprop(Owes d L O W ∗ Ring d L E X q hX (nxt (r + 1)) ∗ ((rV).view.loc (thr d L) ↦{fullShare} doneG E X g (r + 1)))
            -∗ wp frame (wpE (defs₀ (F := F)) 𝒱₀ (thr d L) none) Set.univ K Q)
          -∗ wp frame (wpE (defs₀ (F := F)) 𝒱₀ (thr d L) none) Set.univ (step L r hr K) Q) := by
  have hat : At d L E X q hX (slot r) (nxt r (slot r)) = Busy d L E X q hX (slot r) r hr := by rw [nxt_slot, At_pos _ _ _ _ _ _ _ _ hr]
  rw [Ring_split d L E X q hX (nxt r) (slot r), hat]
  unfold step
  iintro ⟨#Hmw, HO, ⟨Hb, Hrest⟩, Hr⟩ Hk
  iapply (wp_await d L E X q hX O W r hr (slot r) rfl) $$ [HO Hb]
  · isplitl []; · iexact Hmw
    isplitl [HO]; · iexact HO
    iexact Hb
  iintro ⟨HO, ⟨%f, %hf, Hf⟩, Ht, Hs, Hv⟩
  iapply (wp_total d L (ring (slot r)) f) $$ [Hf]
  · iexact Hf
  iintro Hf
  rw [hf]
  iapply (wp_putRow d L _ r hr (pay E X hX r hr)) $$ [Hr]
  · iexact Hr
  rw [rowG_doneG E X hX g r hr]
  iintro Hr
  ihave HR := (Entails.of_eq (Ring_put d L E X q hX (nxt r) (slot r) 32)) $$ [Hf Ht Hs Hv Hrest]
  · isplitr [Hrest]
    · rw [At_neg _ _ _ _ _ _ _ _ (by decide)]
      unfold Free
      isplitl [Hf]; · iexists f; iexact Hf
      isplitl [Ht]; · iexact Ht
      isplitl [Hs]; · iexact Hs
      iexact Hv
    · iexact Hrest
  by_cases h : r + 4 < 32
  · rw [dif_pos h]
    have hslot : slot (r + 4) = slot r := Fin.ext (by show (r + 4) % 4 = r % 4; omega)
    iapply (wp_start d L E X q hX (r + 4) h (Function.update (nxt r) (slot r) 32) (by rw [hslot, Function.update_self]; decide)) $$ [HR]
    · iexact HR
    iintro HR
    iapply Hk
    isplitl [HO]; · iexact HO
    isplitl [HR]
    · iapply (Entails.of_eq (Ring_congr d L E X q hX _ _ (fun p => ?_))) $$ HR
      rw [hslot]
      by_cases hp : p = slot r
      · subst hp; rw [Function.update_self, nxt_succ_slot]; exact .inl rfl
      · rw [Function.update_of_ne hp, Function.update_of_ne hp, nxt_succ r p hp]; exact .inl rfl
    · iexact Hr
  · rw [dif_neg h]
    iapply Hk
    isplitl [HO]; · iexact HO
    isplitl [HR]
    · iapply (Entails.of_eq (Ring_congr d L E X q hX _ _ (fun p => ?_))) $$ HR
      by_cases hp : p = slot r
      · subst hp; rw [Function.update_self, nxt_succ_slot]; exact .inr ⟨by decide, h⟩
      · rw [Function.update_of_ne hp, nxt_succ r p hp]; exact .inl rfl
    · iexact Hr

/-- All steps from `r` on. -/
theorem wp_steps {α : Type} (hX : ∀ i, (X i).toNat < 100000) (O : CellTallies nD τ sig (HIx 1)) (W : Waits sig (HIx 1))
    (g : S32x128.Idx → F .f32) (K : PT F L α) (Q : α → sProp 𝕄) : ∀ (n r : ℕ) (h : r + n ≤ 32),
    iprop(Transfers.MayWaits (thr d L) (default : HIx 1) O ∗ Owes d L O W ∗ Ring d L E X q hX (nxt r)
        ∗ ((rV).view.loc (thr d L) ↦{fullShare} doneG E X g r) : sProp 𝕄)
      ⊢ iprop((iprop(Owes d L O W ∗ Ring d L E X q hX (nxt (r + n)) ∗ ((rV).view.loc (thr d L) ↦{fullShare} doneG E X g (r + n)))
            -∗ wp frame (wpE (defs₀ (F := F)) 𝒱₀ (thr d L) none) Set.univ K Q)
          -∗ wp frame (wpE (defs₀ (F := F)) 𝒱₀ (thr d L) none) Set.univ (steps L n r h K) Q)
  | 0, r, h => by
    iintro ⟨-, HO, HR, Hr⟩ Hk
    iapply Hk
    isplitl [HO]; · iexact HO
    isplitl [HR]; · iexact HR
    iexact Hr
  | n + 1, r, h => by
    iintro ⟨#Hmw, HO, HR, Hr⟩ Hk
    iapply (wp_step d L E X q hX O W r (by omega) g (steps L n (r + 1) (by omega) K)) $$ [HO HR Hr]
    · isplitl []; · iexact Hmw
      isplitl [HO]; · iexact HO
      isplitl [HR]; · iexact HR
      iexact Hr
    iintro ⟨HO, HR, Hr⟩
    iapply (wp_steps hX O W g K Q n (r + 1) _) $$ [HO HR Hr]
    · isplitl []; · iexact Hmw
      isplitl [HO]; · iexact HO
      isplitl [HR]; · iexact HR
      iexact Hr
    rw [show r + (n + 1) = r + 1 + n by omega]
    iexact Hk

/-- At the end all four buffers are free. -/
theorem Ring_idle (hX : ∀ i, (X i).toNat < 100000) : Ring d L E X q hX (fun _ => 32) = bigSep Finset.univ fun p => Free d L E X q p := by
  unfold Ring
  exact bigSep_congr fun p _ => At_neg _ _ _ _ _ hX p 32 (by decide)

/-- From the ids on: the gathers, the sums and the stores leave every row of the buffer the sum of the rows of the table its ids name. -/
theorem wp_rows {α : Type} (hX : ∀ i, (X i).toNat < 100000) (O : CellTallies nD τ sig (HIx 1)) (W : Waits sig (HIx 1))
    (g : S32x128.Idx → F .f32) (K : PT F L α) (Q : α → sProp 𝕄) :
    iprop(Transfers.MayWaits (thr d L) (default : HIx 1) O ∗ Owes d L O W ∗ (bigSep Finset.univ fun p => Free d L E X q p)
        ∗ ((rV).view.loc (thr d L) ↦{fullShare} g) : sProp 𝕄)
      ⊢ iprop((iprop(Owes d L O W ∗ (bigSep Finset.univ fun p => Free d L E X q p)
              ∗ ((rV).view.loc (thr d L) ↦{fullShare} (fun i : S32x128.Idx => rowSum E X (i 0).val (i 1).val)))
            -∗ wp frame (wpE (defs₀ (F := F)) 𝒱₀ (thr d L) none) Set.univ K Q)
          -∗ wp frame (wpE (defs₀ (F := F)) 𝒱₀ (thr d L) none) Set.univ
            (start L 0 (by decide) >>= fun _ => start L 1 (by decide) >>= fun _ => start L 2 (by decide) >>= fun _ => start L 3 (by decide) >>= fun _ =>
              steps L 32 0 (by decide) K) Q) := by
  have h0 : doneG E X g 0 = g := funext fun i => if_neg (by omega)
  have h32 : doneG E X g 32 = fun i : S32x128.Idx => rowSum E X (i 0).val (i 1).val := funext fun i => if_pos (show (i 0).val < 32 from (i 0).isLt)
  have hn : ∀ p, Function.update (Function.update (Function.update (Function.update (fun _ : Fin 4 => 32) (slot 0) 0) (slot 1) 1) (slot 2) 2) (slot 3) 3 p = nxt 0 p := by decide
  have he : ∀ p, ¬ nxt (0 + 32) p < 32 := by decide
  rw [← Ring_idle d L E X q hX, ← h32]
  iintro ⟨#Hmw, HO, HR, Hr⟩ Hk
  iapply (wp_start d L E X q hX 0 _ (fun _ : Fin 4 => 32) (by decide)) $$ [HR]
  · iexact HR
  iintro HR
  iapply (wp_start d L E X q hX 1 _ (Function.update (fun _ : Fin 4 => 32) (slot 0) 0) (by decide)) $$ [HR]
  · iexact HR
  iintro HR
  iapply (wp_start d L E X q hX 2 _ (Function.update (Function.update (fun _ : Fin 4 => 32) (slot 0) 0) (slot 1) 1) (by decide)) $$ [HR]
  · iexact HR
  iintro HR
  iapply (wp_start d L E X q hX 3 _ (Function.update (Function.update (Function.update (fun _ : Fin 4 => 32) (slot 0) 0) (slot 1) 1) (slot 2) 2) (by decide)) $$ [HR]
  · iexact HR
  iintro HR
  ihave HR := (Entails.of_eq (Ring_congr d L E X q hX _ (nxt 0) fun p => .inl (hn p))) $$ HR
  iapply (wp_steps d L E X q hX O W g K Q 32 0 _) $$ [HO HR Hr]
  · isplitl []; · iexact Hmw
    isplitl [HO]; · iexact HO
    isplitl [HR]; · iexact HR
    rw [h0]; iexact Hr
  iintro ⟨HO, HR, Hr⟩
  iapply Hk
  isplitl [HO]; · iexact HO
  isplitl [HR]
  · iapply (Entails.of_eq (Ring_congr d L E X q hX _ (fun _ => 32) fun p => .inr ⟨he p, by decide⟩)) $$ HR
  · iexact Hr

end Tile
end Cert.Proof.ITile
-- ==== Proof.Ideal.Blocks.lean ====
module

public import proofs.«01_k».proof.Proof.Ideal.Steps
public import Idealize.ShloMosaic.Lib.ValueIdxCore
public import Idealize.ShloMosaic.Lib.ShareLeaves
public import Idealize.ShloMosaic.Lib.Pipeline.Value

@[expose] public section

noncomputable section

namespace Cert.Proof.ITile

open Cert.KernelIdeal Cert.KernelIdeal.Gen Cert.Proof.ISetup Cert.Proof.IPoolProg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)

variable {F : FTy → Type} [FloatOps F]

local notation "𝕄" => MM F
local notation "iV" => (Memref.whole Cert.KernelIdeal.main_arg0_scv : Memref Cert.KernelIdeal.sig Kind.scVector Space.hbm Cert.KernelIdeal.S1024x50 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32x50 EltTy.i32)
local notation "rV" => (Memref.whole Cert.KernelIdeal.cc0_scratch1 : Memref Cert.KernelIdeal.sig Kind.scVector Space.vmem Cert.KernelIdeal.S32x128 EltTy.f32)

/-- The ids' array. -/
abbrev iLoc (d : Dev nD) : Loc nD τ sig := (SparseCore.T d).loc main_arg0
/-- The table's array. -/
abbrev xLoc (d : Dev nD) : Loc nD τ sig := (SparseCore.T d).loc main_arg1
/-- The pooled rows' array. -/
abbrev oLoc (d : Dev nD) : Loc nD τ sig := (SparseCore.T d).loc main_v0

/-! ### The task's rows of the output -/

/-- 32 tasks divide the 1024 rows. -/
theorem odiv : 32 ∣ S1024x128.size 0 := ⟨32, rfl⟩
/-- The rows of task `w`. -/
def oSet (w : Fin 32) : Finset S1024x128.Idx := (Rect.part (s := S1024x128) (a₀ := 0) odiv w).set

/-- The number of the task at `L`. -/
def wid (L : grid0.Coords) : Fin 32 := ⟨2 * (L 1).val + (L 0).val, by
  have h0 : (L 0).val < 2 := (L 0).isLt
  have h1 : (L 1).val < 16 := (L 1).isLt
  omega⟩

section Task
variable (d : Dev nD) (L : grid0.Coords)

/-- The task's rows of the ids, as the program slices them. -/
abbrev iSlice : Memref sig .scVector .hbm S32x50 .i32 := (iV).slice (Rect.unit (s := S1024x50) (k0_off1 L) S32x50.size (k0_off1_inb L)) (fun _ => rfl)
/-- The task's rows of the output, as the program slices them. -/
abbrev oSlice : Memref sig .scVector .hbm S32x128 .f32 := (oV).slice (Rect.unit (s := S1024x128) (k0_off258 L) S32x128.size (k0_off258_inb L)) (fun _ => rfl)

/-- The output's slice is the task's part of the array. -/
theorem set_oSlice : (oSlice L).view.set = oSet (wid L) := by
  show ((View.whole (main_v0_scv : Ref sig .scVector)).slice (Rect.unit (s := S1024x128) (k0_off258 L) S32x128.size (k0_off258_inb L))).set = _
  rw [View.set_slice]
  refine (Finset.map_refl).trans ?_
  unfold oSet Rect.part Rect.block
  refine congrArg (fun r : Rect S1024x128 => r.set) ?_
  congr 1 <;> funext a
  · rw [k0_off258_eq]
    match a with
    | 0 => simp [Shape.partIx, Shape.partSize, wid, S1024x128]; omega
    | 1 => simp [Shape.partIx, Shape.partSize, wid, S1024x128]
  · match a with
    | 0 => simp [Shape.partSize, S1024x128, S32x128]
    | 1 => simp [Shape.partSize, S1024x128, S32x128]

/-! ### What the kernel computes -/

/-- The number in place `(r, l)` of the ids, zero outside them. -/
def idsAt (I : S1024x50.Idx → BitVec 32) (r l : ℕ) : ℕ :=
  if h : r < 1024 ∧ l < 50 then (I (ix2 (⟨r, h.1⟩ : Fin 1024) (⟨l, h.2⟩ : Fin 50))).toNat else 0

/-- The pooled table: at row `r` the sum of the fifty rows of the table the ids' row `r` names. -/
def poolF (E : S100000x128.Idx → F .f32) (I : S1024x50.Idx → BitVec 32) : S1024x128.Idx → F .f32 := fun i =>
  sumTo (fun l => tabAt E (idsAt I (i 0).val l) (i 1).val) 50

variable (E : S100000x128.Idx → F .f32) (I : S1024x50.Idx → BitVec 32)

/-- The task's block of the ids. -/
def blk : S32x50.Idx → BitVec 32 := fun i => I ((Rect.unit (s := S1024x50) (k0_off1 L) S32x50.size (k0_off1_inb L)).emb i)

omit [FloatOps F] in
/-- The ids' slice reads as the task's block. -/
theorem read_iSlice : (iSlice L).view.read (Elt F) I = blk L I := funext fun x => (View.read_apply _ _).trans (cast_eq _ _)

/-- A place of the block is a place of the whole ids. -/
theorem idAt_blk (r l : ℕ) (hr : r < 32) (hl : l < 50) : idAt (blk L I) r l = idsAt I (64 * (L 1).val + 32 * (L 0).val + r) l := by
  have h0 : (L 0).val < 2 := (L 0).isLt
  have h1 : (L 1).val < 16 := (L 1).isLt
  unfold idAt idsAt
  rw [dif_pos (⟨hr, hl⟩ : r < 32 ∧ l < 50), dif_pos (⟨by omega, hl⟩ : 64 * (L 1).val + 32 * (L 0).val + r < 1024 ∧ l < 50)]
  unfold blk
  refine congrArg (fun x => (I x).toNat) ?_
  funext a
  match a with
  | ⟨0, _⟩ =>
    refine Fin.ext ?_
    show (k0_off1 L) 0 + 1 * r = _
    rw [k0_off1_eq]
    show 64 * (L 1).val + 32 * (L 0).val + 1 * r = 64 * (L 1).val + 32 * (L 0).val + r
    omega
  | ⟨1, _⟩ =>
    refine Fin.ext ?_
    show (k0_off1 L) 1 + 1 * l = l
    rw [k0_off1_eq]
    show 0 + 1 * l = l
    omega

/-- A buffer that reads as the task's sums through the task's rows holds the pooled table there. -/
theorem poolF_block (g : S1024x128.Idx → F .f32) (hg : (oSlice L).view.read (Elt F) g = fun j : S32x128.Idx => rowSum E (blk L I) (j 0).val (j 1).val)
    (i : S1024x128.Idx) (hi : i ∈ (oSlice L).view.set) : g i = poolF E I i := by
  obtain ⟨x, rfl⟩ : ∃ x, (oSlice L).view.emb x = i := by
    obtain ⟨x, -, hx⟩ := Finset.mem_map.mp hi; exact ⟨x, hx⟩
  have h := congrFun hg x
  rw [View.read_apply] at h
  refine ((cast_eq _ _).symm.trans h).trans ?_
  show rowSum E (blk L I) (x 0).val (x 1).val = _
  have e0 : ((oSlice L).view.emb x 0).val = 64 * (L 1).val + 32 * (L 0).val + (x 0).val := by
    show (k0_off258 L) 0 + 1 * (x 0).val = _
    rw [k0_off258_eq]
    show 64 * (L 1).val + 32 * (L 0).val + 1 * (x 0).val = _
    omega
  have e1 : ((oSlice L).view.emb x 1).val = (x 1).val := by
    show (k0_off258 L) 1 + 1 * (x 1).val = _
    rw [k0_off258_eq]
    show 0 + 1 * (x 1).val = _
    omega
  unfold poolF rowSum
  refine sumTo_congr _ _ 50 fun l hl => ?_
  rw [e0, e1, idAt_blk L I _ l (x 0).isLt hl]

end Task
end Cert.Proof.ITile
-- ==== Proof.Ideal.Task.lean ====
module

public import proofs.«01_k».proof.Proof.Ideal.Blocks
public import Idealize.ShloMosaic.Lib.ValueIdxCore
public import Idealize.ShloMosaic.Lib.ShareLeaves
public import Idealize.ShloMosaic.Lib.Pipeline.Value

@[expose] public section

noncomputable section

namespace Cert.Proof.ITile

open Cert.KernelIdeal Cert.KernelIdeal.Gen Cert.Proof.ISetup Cert.Proof.IPoolProg
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)

variable {F : FTy → Type} [FloatOps F]

local notation "𝕄" => MM F
local notation "iV" => (Memref.whole Cert.KernelIdeal.main_arg0_scv : Memref Cert.KernelIdeal.sig Kind.scVector Space.hbm Cert.KernelIdeal.S1024x50 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32x50 EltTy.i32)
local notation "rV" => (Memref.whole Cert.KernelIdeal.cc0_scratch1 : Memref Cert.KernelIdeal.sig Kind.scVector Space.vmem Cert.KernelIdeal.S32x128 EltTy.f32)

section Task
variable (d : Dev nD) (L : grid0.Coords)

/-! ### The task's own buffers and semaphores -/

/-- The cell of one of the task's semaphores. -/
abbrev cell (s : DmaSem sig) : GSem nD τ sig := (thr d L, .dma s)

/-- The task's semaphores the body names. -/
def mySems : Finset (DmaSem sig) := {cc0_scoped0.sem, cc0_scoped1.sem, rsem 0, rsem 1, rsem 2, rsem 3}

/-- The task's semaphores are its own. -/
theorem mySems_scoped : ∀ s ∈ mySems, (SemLoc.dma s : SemLoc sig).isScoped .scVector = true := by decide

/-- Different semaphores have different cells. -/
theorem cell_injective : Function.Injective (cell d L) := fun a b h => by
  have h2 := congrArg Prod.snd h
  exact SemLoc.dma.inj h2

/-- Their cells are among the subcore's. -/
theorem cells_sub : (mySems.image (cell d L)) ⊆ ownCells (thr d L) := fun g hg => by
  obtain ⟨s, hs, rfl⟩ := Finset.mem_image.mp hg
  exact mem_ownCells.mpr ⟨rfl, mySems_scoped s hs⟩

/-- The subcore's counters: the task's and the rest. -/
theorem ownSems0_split : (ownSems0 (thr d L) : sProp 𝕄)
    = iprop((semVal (cell d L cc0_scoped0.sem) 0 ∗ semVal (cell d L cc0_scoped1.sem) 0 ∗ semVal (cell d L (rsem 0)) 0 ∗ semVal (cell d L (rsem 1)) 0
        ∗ semVal (cell d L (rsem 2)) 0 ∗ semVal (cell d L (rsem 3)) 0)
        ∗ bigSep (ownCells (thr d L) \ mySems.image (cell d L)) fun g => semVal g 0) := by
  unfold SparseCore.Cfg.ownSems0
  rw [SparseCore.bigSep_sdiff_split' (cells_sub d L), SparseCore.bigSep_image_of_injOn (cell_injective d L).injOn,
    bigSep_eq_bigSepL_of_eq [cc0_scoped0.sem, cc0_scoped1.sem, rsem 0, rsem 1, rsem 2, rsem 3] (by decide) (by decide)]
  rfl

/-- The task's scratch buffers the body names. -/
def myRefs : Finset (Ref sig .scVector) := {cc0_scratch0, cc0_scratch1, cc0_scratch2, cc0_scratch3, cc0_scratch4, cc0_scratch5}

/-- The task's buffers are among the subcore's. -/
theorem refs_sub : (myRefs.image (Proc.scVector (cV L) (jV L)).devRef) ⊆ ownRefs (τ := τ) (.scVector (cV L) (jV L)) := fun g hg => by
  obtain ⟨b, hb, rfl⟩ := Finset.mem_image.mp hg
  unfold myRefs at hb
  simp only [Finset.mem_insert, Finset.mem_singleton] at hb
  rcases hb with rfl | rfl | rfl | rfl | rfl | rfl <;>
    exact SparseCore.Cfg.mem_ownRefs_of_owner (p := Proc.scVector (cV L) (jV L)) rfl

/-- One of the task's buffers, at some contents. -/
abbrev some1 (b : Ref sig .scVector) : sProp 𝕄 := iprop(∃ f : Buf (Elt F) ((thr d L).loc b), (thr d L).loc b ↦{fullShare} f)

/-- The subcore's buffers: the task's and the rest. -/
theorem ownBufs_split : (ownBufs (thr d L) : sProp 𝕄)
    = iprop((some1 (F := F) d L cc0_scratch0 ∗ some1 (F := F) d L cc0_scratch1 ∗ some1 (F := F) d L cc0_scratch2 ∗ some1 (F := F) d L cc0_scratch3
        ∗ some1 (F := F) d L cc0_scratch4 ∗ some1 (F := F) d L cc0_scratch5)
        ∗ bigSep (ownRefs (τ := τ) (.scVector (cV L) (jV L)) \ myRefs.image (Proc.scVector (cV L) (jV L)).devRef)
            fun b => iprop(∃ f, ((d, b) : Loc nD τ sig) ↦{fullShare} f)) := by
  unfold SparseCore.Cfg.ownBufs
  refine (SparseCore.bigSep_sdiff_split' (refs_sub L)).trans ?_
  rw [SparseCore.bigSep_image_of_injOn (Proc.devRef_injective _).injOn,
    bigSep_eq_bigSepL_of_eq [cc0_scratch0, cc0_scratch1, cc0_scratch2, cc0_scratch3, cc0_scratch4, cc0_scratch5] (by decide) (by decide)]
  rfl

/-- Four conjuncts, one by one. -/
theorem bigSep_four (Φ : Fin 4 → sProp 𝕄) : bigSep Finset.univ Φ = iprop(Φ 0 ∗ Φ 1 ∗ Φ 2 ∗ Φ 3) :=
  (bigSep_univ_eq_bigSepL [0, 1, 2, 3] (by decide) (by decide) Φ).trans rfl

variable (E : S100000x128.Idx → F .f32) (X : S32x50.Idx → BitVec 32) (q : PosShare TreeShare)

/-- One place of the ring's buffer at some contents. -/
abbrev some4 (p : Fin 4) : sProp 𝕄 := iprop(∃ f : Buf (Elt F) ((ring p).view.loc (thr d L)), (ring p).view.loc (thr d L) ↦[(ring p).view.set]{fullShare} f)

/-- The whole table and the whole block of ids split over the ring's places. -/
theorem free_all : (bigSep Finset.univ fun p => Free d L E X q p : sProp 𝕄)
    = iprop((some4 (F := F) d L 0 ∗ some4 (F := F) d L 1 ∗ some4 (F := F) d L 2 ∗ some4 (F := F) d L 3)
        ∗ ((tab).view.loc (thr d L) ↦[(tab).view.set]{q} E) ∗ ((sV).view.loc (thr d L) ↦{fullShare} X)
        ∗ semVal (cell d L (rsem 0)) 0 ∗ semVal (cell d L (rsem 1)) 0 ∗ semVal (cell d L (rsem 2)) 0 ∗ semVal (cell d L (rsem 3)) 0) := by
  have e1 : ((tab).view.loc (thr d L) ↦[(tab).view.set]{q} E : sProp 𝕄) = bigSep Finset.univ fun p : Fin 4 => (tab).view.loc (thr d L) ↦[(tab).view.set]{leaf 2 q p} E :=
    pointsTo_leaves _ _ 2 q
  have e2 : ((sV).view.loc (thr d L) ↦{fullShare} X : sProp 𝕄) = bigSep Finset.univ fun p : Fin 4 => (sV).view.loc (thr d L) ↦[Finset.univ]{leaf 2 fullShare p} X :=
    pointsTo_leaves _ _ 2 fullShare
  rw [e1, e2]
  unfold Free
  rw [bigSep_sep', bigSep_sep', bigSep_sep', bigSep_four, bigSep_four (F := F) (fun p => semVal (thr d L, SemLoc.dma (rsem p)) 0)]

/-! ### The task -/

variable (I : S1024x50.Idx → BitVec 32)

/-- A share of the ids. -/
abbrev iSh (d : Dev nD) (q : PosShare TreeShare) (I : S1024x50.Idx → BitVec 32) : sProp 𝕄 := iLoc d ↦{q} (I : Buf (Elt F) (iLoc d))
/-- A share of the table. -/
abbrev xSh (d : Dev nD) (q : PosShare TreeShare) (E : S100000x128.Idx → F .f32) : sProp 𝕄 := xLoc d ↦{q} (E : Buf (Elt F) (xLoc d))
/-- A task's rows of the output. -/
abbrev oSh (d : Dev nD) (w : Fin 32) (o : S1024x128.Idx → F .f32) : sProp 𝕄 := oLoc d ↦[oSet w]{fullShare} (o : Buf (Elt F) (oLoc d))

/-- The copy of the task's ids. -/
theorem wp_copyIn {α : Type} (O : CellTallies nD τ sig (HIx 1)) (W : Waits sig (HIx 1)) (C : PT F L α) (Q : α → sProp 𝕄) :
    iprop(Transfers.MayWaits (thr d L) (default : HIx 1) O ∗ Owes d L O W ∗ iSh (F := F) d q I ∗ some1 (F := F) d L cc0_scratch0
        ∗ semVal (cell d L cc0_scoped0.sem) 0 : sProp 𝕄)
      ⊢ iprop((iprop(Owes d L O W ∗ iSh (F := F) d q I ∗ ((sV).view.loc (thr d L) ↦{fullShare} blk L I) ∗ semVal (cell d L cc0_scoped0.sem) 0)
            -∗ wp frame (wpE (defs₀ (F := F)) 𝒱₀ (thr d L) none) Set.univ C Q)
          -∗ wp frame (wpE (defs₀ (F := F)) 𝒱₀ (thr d L) none) Set.univ (copyIn L C) Q) := by
  unfold copyIn Owes
  iintro ⟨#Hmw, ⟨%W', %hW, HO⟩, Hi, ⟨%fs, Hs⟩, HsA⟩ Hk
  ihave Hi' := (Entails.of_eq (show (iSh (F := F) d q I : sProp 𝕄) = ((iV).view.loc (thr d L) ↦{q} I) from rfl)) $$ Hi
  ihave Hs' := (Entails.of_eq (show ((thr d L).loc cc0_scratch0 ↦{fullShare} fs : sProp 𝕄) = ((sV).view.loc (thr d L) ↦{fullShare} fs) from rfl)) $$ Hs
  sl_exec
  iapply Hk
  isplitl [HO]
  · iexists _; isplitr
    swap; · iexact HO
    ipureintro; intro p hp
    rcases Finset.mem_insert.mp hp with hp | hp
    · exact .inr (hp ▸ rfl)
    · exact hW p hp
  isplitl [Hi']; · iexact Hi'
  isplitl [Hs']
  · rw [show View.write (Elt F) (sV).view fs (wp_copyIn.sl.dma0 L I) Finset.univ = blk L I from
      (View.write_whole_univ (Val := Elt F) cc0_scratch0 fs _).trans (read_iSlice (F := F) L I)]
    iexact Hs'
  iexact HsA

/-- The task's rows, once they hold the sums, are those of the pooled table. -/
theorem oSh_of (o : S1024x128.Idx → F .f32) (w : S32x128.Idx → F .f32) (hw : w = fun j => rowSum E (blk L I) (j 0).val (j 1).val) :
    ((oSlice L).view.loc (thr d L) ↦[(oSlice L).view.set]{fullShare} (oSlice L).view.writes (Elt F) o [⟨Rect.whole S32x128, w⟩] : sProp 𝕄)
      ⊢ oSh d (wid L) (poolF E I) := by
  have hr : (oSlice L).view.read (Elt F) ((oSlice L).view.writes (Elt F) o [⟨Rect.whole S32x128, w⟩]) = w := by
    funext x
    have h := View.read_writes_cons_emb (Val := Elt F) (v := (oSlice L).view) (f := o) (Rect.whole S32x128) w [] x
    rw [Rect.emb_whole_apply] at h
    exact h
  refine Entails.of_eq ?_
  rw [pointsTo_congr (poolF_block L E I _ (hr.trans hw)), set_oSlice]

/-- The copy of the task's sums to the output. -/
theorem wp_copyOut (O : CellTallies nD τ sig (HIx 1)) (W : Waits sig (HIx 1)) (o : S1024x128.Idx → F .f32) (Q : PUnit → sProp 𝕄) :
    iprop(Transfers.MayWaits (thr d L) (default : HIx 1) O ∗ Owes d L O W
        ∗ ((rV).view.loc (thr d L) ↦{fullShare} (fun i : S32x128.Idx => rowSum E (blk L I) (i 0).val (i 1).val)) ∗ oSh d (wid L) o
        ∗ semVal (cell d L cc0_scoped1.sem) 0 : sProp 𝕄)
      ⊢ iprop((iprop(Owes d L O W ∗ some1 (F := F) d L cc0_scratch1 ∗ oSh d (wid L) (poolF E I) ∗ semVal (cell d L cc0_scoped1.sem) 0) -∗ Q ⟨⟩)
          -∗ wp frame (wpE (defs₀ (F := F)) 𝒱₀ (thr d L) none) Set.univ (copyOut L) Q) := by
  unfold copyOut Owes
  iintro ⟨#Hmw, ⟨%W', %hW, HO⟩, Hr, Ho, HsB⟩ Hk
  ihave Ho' := (Entails.of_eq (show (oSh d (wid L) o : sProp 𝕄) = ((oSlice L).view.loc (thr d L) ↦[(oSlice L).view.set]{fullShare} o) by
    rw [set_oSlice])) $$ Ho
  sl_exec
  sl_step
  iapply Hk
  isplitl [HO]
  · iexists _; isplitr
    swap; · iexact HO
    ipureintro; intro p hp
    rcases Finset.mem_insert.mp hp with hp | hp
    · exact .inr (hp ▸ rfl)
    · exact hW p hp
  isplitl [Hr]; · iexists _; iexact Hr
  isplitl [Ho']
  · iapply (oSh_of d L E I o (wp_copyOut.sl.dma0 L E I) (by unfold wp_copyOut.sl.dma0; rfl)); iexact Ho'
  iexact HsB

/-- Task `L`: from a share of the ids, a share of the table and its own rows of the output outright, its rows of the output left at the
    sums of the rows of the table the ids name. -/
theorem task_wp (hI : ∀ i, (I i).toNat < 100000) (hF : (K (F := F)).Facts) (O : CellTallies nD τ sig (HIx 1)) (W : Waits sig (HIx 1)) (hO : ∀ g, O g none = 0)
    (o : S1024x128.Idx → F .f32) :
    iprop(levAts (K (F := F)).L (K (F := F)).lev ∗ emp
        ∗ (iSh (F := F) d q I ∗ xSh d q E ∗ oSh d (wid L) o)
        ∗ scopedBufs (thr d L) ∗ scopedSems0 (thr d L) ∗ owes (thr d L) O W)
      ⊢ wp frame (wpE (defs₀ (F := F)) 𝒱₀ (thr d L) none) Set.univ (prog L)
          fun _ => iprop((iSh (F := F) d q I ∗ xSh d q E ∗ oSh d (wid L) (poolF E I))
            ∗ scopedBufs (thr d L) ∗ scopedSems0 (thr d L)
            ∗ ∃ W', ⌜∀ p ∈ W', p ∈ W ∨ p.2 = none⌝ ∗ owes (thr d L) O W') := by
  have hset : ∀ p : Fin 4, (ring p).view.set = Finset.univ := fun p => (ring_whole p).set_eq_univ
  have hsome : ∀ p : Fin 4, (some4 (F := F) d L p : sProp 𝕄) = some1 (F := F) d L (ring p).view.ref := by
    intro p; unfold some4; rw [hset]
  have e2 : (some1 (F := F) d L cc0_scratch2 : sProp 𝕄) = some4 (F := F) d L 0 := (hsome 0).symm
  have e3 : (some1 (F := F) d L cc0_scratch3 : sProp 𝕄) = some4 (F := F) d L 1 := (hsome 1).symm
  have e4 : (some1 (F := F) d L cc0_scratch4 : sProp 𝕄) = some4 (F := F) d L 2 := (hsome 2).symm
  have e5 : (some1 (F := F) d L cc0_scratch5 : sProp 𝕄) = some4 (F := F) d L 3 := (hsome 3).symm
  rw [(K (F := F)).scopedBufs_V hF d (cV L) (jV L), SparseCore.Cfg.scopedSems0_V (Val := Elt F) d (cV L) (jV L), ownSems0_split, ownBufs_split, e2, e3, e4, e5]
  unfold prog
  iintro ⟨#Hlv, -, ⟨Hi, Hx, Ho⟩, ⟨⟨Hs, ⟨%fr, Hr⟩, H2, H3, H4, H5⟩, Hbufs⟩, ⟨⟨HsA, HsB, HsC, HsD, HsE, HsF⟩, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_copyIn d L q I O W) $$ [HO Hi Hs HsA]
  · isplitl []; · iexact Hmw
    isplitl [HO]
    · unfold Owes; iexists W; isplitr
      · ipureintro; exact fun p hp => .inl hp
      · iexact HO
    isplitl [Hi]; · iexact Hi
    isplitl [Hs]; · iexact Hs
    iexact HsA
  iintro ⟨HO, Hi, Hs, HsA⟩
  ihave Hx' := (Entails.of_eq (show (xSh d q E : sProp 𝕄) = ((tab).view.loc (thr d L) ↦[Finset.univ]{q} E) from rfl)) $$ Hx
  ihave Hxs := (pointsTo_split_subset (ℓ := (tab).view.loc (thr d L)) (I := (tab).view.set) (q := q) (f := E) (S := Finset.univ) (Finset.subset_univ _)).1 $$ Hx'
  icases Hxs with ⟨Hx, Hxr⟩
  iapply (wp_rows d L E (blk L I) q (fun i => hI _) O W fr) $$ [HO Hs Hx Hr H2 H3 H4 H5 HsC HsD HsE HsF]
  · isplitl []; · iexact Hmw
    isplitl [HO]; · iexact HO
    isplitr [Hr]
    · rw [free_all]
      isplitl [H2 H3 H4 H5]
      · isplitl [H2]; · iexact H2
        isplitl [H3]; · iexact H3
        isplitl [H4]; · iexact H4
        iexact H5
      isplitl [Hx]; · iexact Hx
      isplitl [Hs]; · iexact Hs
      isplitl [HsC]; · iexact HsC
      isplitl [HsD]; · iexact HsD
      isplitl [HsE]; · iexact HsE
      iexact HsF
    · iexact Hr
  rw [free_all]
  iintro ⟨HO, ⟨⟨H2, H3, H4, H5⟩, Hx, Hs, HsC, HsD, HsE, HsF⟩, Hr⟩
  iapply (wp_copyOut d L E I O W o) $$ [HO Hr Ho HsB]
  · isplitl []; · iexact Hmw
    isplitl [HO]; · iexact HO
    isplitl [Hr]; · iexact Hr
    isplitl [Ho]; · iexact Ho
    iexact HsB
  iintro ⟨HO, Hr, Ho, HsB⟩
  ihave Hx' := (pointsTo_split_subset (ℓ := (tab).view.loc (thr d L)) (I := (tab).view.set) (q := q) (f := E) (S := Finset.univ) (Finset.subset_univ _)).2 $$ [Hx Hxr]
  · isplitl [Hx] <;> iassumption
  isplitl [Hi Hx' Ho]
  · isplitl [Hi]; · iexact Hi
    isplitl [Hx']; · iexact Hx'
    iexact Ho
  isplitl [Hs Hr H2 H3 H4 H5 Hbufs]
  · isplitr [Hbufs]
    · isplitl [Hs]; · iexists _; iexact Hs
      isplitl [Hr]; · iexact Hr
      isplitl [H2]; · iexact H2
      isplitl [H3]; · iexact H3
      isplitl [H4]; · iexact H4
      iexact H5
    · iexact Hbufs
  isplitl [HsA HsB HsC HsD HsE HsF Hsems]
  · isplitr [Hsems]
    · isplitl [HsA]; · iexact HsA
      isplitl [HsB]; · iexact HsB
      isplitl [HsC]; · iexact HsC
      isplitl [HsD]; · iexact HsD
      isplitl [HsE]; · iexact HsE
      iexact HsF
    · iexact Hsems
  unfold Owes; iexact HO

end Task
end Cert.Proof.ITile
-- ==== Proof.Ideal.PoolEq.lean ====
/-
  The printed pooling body is the recursion of `IPoolProg`: every window of the printed straight line opened, the
  sequencing re-associated, and the two read as one program.
-/
module

public import proofs.«01_k».proof.Proof.Ideal.PoolProg

@[expose] public section

set_option maxRecDepth 65536

noncomputable section

namespace Cert.Proof.IPoolProg

open Cert.KernelIdeal Cert.KernelIdeal.Gen
open Idealize.ShloMosaic Idealize.SL.Sem

variable {F : FTy → Type} [FloatOps F]

set_option maxHeartbeats 4000000 in
/-- The printed body is the recursion. -/
theorem body_eq (L : grid0.Coords) : body (F := F) L = prog L := by
  unfold body
  rw [cc0__pool_body_eq_skeleton]
  simp only [
    cc0__pool_body_skel, k0_part1_eq_skeleton, k0_part1_skel, k0_part2_eq_skeleton, k0_part2_skel,
    k0_part3_eq_skeleton, k0_part3_skel, k0_part4_eq_skeleton, k0_part4_skel, k0_part5_eq_skeleton,
    k0_part5_skel, k0_part6_eq_skeleton, k0_part6_skel, k0_part7_eq_skeleton, k0_part7_skel,
    k0_part8_eq_skeleton, k0_part8_skel, k0_part9_eq_skeleton, k0_part9_skel, k0_part10_eq_skeleton,
    k0_part10_skel, k0_part11_eq_skeleton, k0_part11_skel, k0_part12_eq_skeleton, k0_part12_skel,
    k0_part13_eq_skeleton, k0_part13_skel, k0_part14_eq_skeleton, k0_part14_skel, k0_part15_eq_skeleton,
    k0_part15_skel, k0_part16_eq_skeleton, k0_part16_skel, k0_part17_eq_skeleton, k0_part17_skel,
    k0_part18_eq_skeleton, k0_part18_skel, k0_part19_eq_skeleton, k0_part19_skel, k0_part20_eq_skeleton,
    k0_part20_skel, k0_part21_eq_skeleton, k0_part21_skel, k0_part22_eq_skeleton, k0_part22_skel,
    k0_part23_eq_skeleton, k0_part23_skel, k0_part24_eq_skeleton, k0_part24_skel, k0_part25_eq_skeleton,
    k0_part25_skel, k0_part26_eq_skeleton, k0_part26_skel, k0_part27_eq_skeleton, k0_part27_skel,
    k0_part28_eq_skeleton, k0_part28_skel, k0_part29_eq_skeleton, k0_part29_skel, k0_part30_eq_skeleton,
    k0_part30_skel, k0_part31_eq_skeleton, k0_part31_skel, k0_part32_eq_skeleton, k0_part32_skel,
    k0_part33_eq_skeleton, k0_part33_skel, k0_part34_eq_skeleton, k0_part34_skel, k0_part35_eq_skeleton,
    k0_part35_skel, k0_part36_eq_skeleton, k0_part36_skel, k0_part37_eq_skeleton, k0_part37_skel,
    k0_part38_eq_skeleton, k0_part38_skel, k0_part39_eq_skeleton, k0_part39_skel, k0_part40_eq_skeleton,
    k0_part40_skel, k0_part41_eq_skeleton, k0_part41_skel, k0_part42_eq_skeleton, k0_part42_skel,
    k0_part43_eq_skeleton, k0_part43_skel, k0_part44_eq_skeleton, k0_part44_skel, k0_part45_eq_skeleton,
    k0_part45_skel, k0_part46_eq_skeleton, k0_part46_skel, k0_part47_eq_skeleton, k0_part47_skel,
    k0_part48_eq_skeleton, k0_part48_skel, k0_part49_eq_skeleton, k0_part49_skel, k0_part50_eq_skeleton,
    k0_part50_skel, k0_part51_eq_skeleton, k0_part51_skel, bind_assoc, pure_bind]
  rfl

end Cert.Proof.IPoolProg
-- ==== Proof.Ideal.Obl.lean ====
module

public import proofs.«01_k».proof.Proof.Ideal.Task
public import proofs.«01_k».proof.Proof.Ideal.PoolEq
public import Idealize.ShloMosaic.Lib.ValueIdxCore
public import Idealize.ShloMosaic.Lib.ShareLeaves
public import Idealize.ShloMosaic.Lib.Pipeline.Value

@[expose] public section

noncomputable section

namespace Cert.Proof.ILaunch

open Cert.KernelIdeal Cert.KernelIdeal.Gen Cert.Proof.ISetup Cert.Proof.IPoolProg Cert.Proof.ITile
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.ShareLeaves (leaf pointsTo_leaves)

variable {F : FTy → Type} [FloatOps F]

local notation "𝕄" => MM F
local notation "iV" => (Memref.whole Cert.KernelIdeal.main_arg0_scv : Memref Cert.KernelIdeal.sig Kind.scVector Space.hbm Cert.KernelIdeal.S1024x50 EltTy.i32)
local notation "xV" => (Memref.whole Cert.KernelIdeal.main_arg1_scv : Memref Cert.KernelIdeal.sig Kind.scVector Space.hbm Cert.KernelIdeal.S100000x128 EltTy.f32)
local notation "oV" => (Memref.whole Cert.KernelIdeal.main_v0_scv : Memref Cert.KernelIdeal.sig Kind.scVector Space.hbm Cert.KernelIdeal.S1024x128 EltTy.f32)
local notation "sV" => (Memref.whole Cert.KernelIdeal.cc0_scratch0 : Memref Cert.KernelIdeal.sig Kind.scVector Space.vmem Cert.KernelIdeal.S32x50 EltTy.i32)
local notation "rV" => (Memref.whole Cert.KernelIdeal.cc0_scratch1 : Memref Cert.KernelIdeal.sig Kind.scVector Space.vmem Cert.KernelIdeal.S32x128 EltTy.f32)

variable (m : (ℓ : Loc nD τ sig) → Buf (Elt F) ℓ)

/-! ## What the call's handshakes carry -/

/-- The ids and the table at launch. -/
abbrev ids (d : Dev nD) : S1024x50.Idx → BitVec 32 := m (iLoc d)
/-- The table on a device. -/
abbrev tbl (d : Dev nD) : S100000x128.Idx → F .f32 := m (xLoc d)

/-- SparseCore `c`'s share of what every task reads, and task `(c, i)`'s. -/
abbrev qc (c : Fin 2) : PosShare TreeShare := leaf 1 fullShare c
/-- A subcore's share of the arrays all read. -/
abbrev qt (c : Fin 2) (i : Fin 16) : PosShare TreeShare := leaf 4 (qc c) i

/-- The number of task `(c, i)`. -/
def wof (c : Fin 2) (i : Fin 16) : Fin 32 := ⟨2 * i.val + c.val, by omega⟩

/-- What a SparseCore is handed, with the output's contents. -/
abbrev stP (d : Dev nD) (c : Fin 2) (o : S1024x128.Idx → F .f32) : sProp 𝕄 :=
  iprop(iSh (F := F) d (qc c) (ids m d) ∗ xSh d (qc c) (tbl m d) ∗ bigSep Finset.univ fun i : Fin 16 => oSh d (wof c i) o)
/-- What a subcore is handed, with the output's contents. -/
abbrev goP (d : Dev nD) (c : Fin 2) (i : Fin 16) (o : S1024x128.Idx → F .f32) : sProp 𝕄 :=
  iprop(iSh (F := F) d (qt c i) (ids m d) ∗ xSh d (qt c i) (tbl m d) ∗ oSh d (wof c i) o)

/-- A SparseCore takes its share of the ids and of the table and its tasks' rows of the output, and brings them back with the rows at the pooled table. -/
def P : (K (F := F)).Pay (nD := nD) (Val := Elt F) (Name := ℕ) (U := UU) where
  st := fun q d c => match q with | 0 => stP m d (Fin.cast nCore_zero c) (m (oLoc d))
  dn := fun q d c => match q with | 0 => stP m d (Fin.cast nCore_zero c) (poolF (tbl m d) (ids m d))
  go := fun q d c i => match q with | 0 => goP m d (Fin.cast nCore_zero c) (Fin.cast nSub_zero i) (m (oLoc d))
  td := fun q d c i => match q with | 0 => goP m d (Fin.cast nCore_zero c) (Fin.cast nSub_zero i) (poolF (tbl m d) (ids m d))
  x := fun _ _ => iprop(emp)

/-- What the handshakes carry can be stored. -/
instance P_storable : (P (F := F) m).IsStorable where
  st q d c := match q with | 0 => (inferInstance : BI.Storable (upEmb : UEmb _ 𝕄) (stP m d (Fin.cast nCore_zero c) (m (oLoc d))))
  dn q d c := match q with | 0 => (inferInstance : BI.Storable (upEmb : UEmb _ 𝕄) (stP m d (Fin.cast nCore_zero c) (poolF (tbl m d) (ids m d))))
  go q d c i := match q with | 0 => (inferInstance : BI.Storable (upEmb : UEmb _ 𝕄) (goP m d (Fin.cast nCore_zero c) (Fin.cast nSub_zero i) (m (oLoc d))))
  td q d c i := match q with | 0 => (inferInstance : BI.Storable (upEmb : UEmb _ 𝕄) (goP m d (Fin.cast nCore_zero c) (Fin.cast nSub_zero i) (poolF (tbl m d) (ids m d))))

/-- Every id names a row of the table. -/
def PreOK : Prop := ∀ (d : Dev nD) (i : S1024x50.Idx), (ids m d i).toNat < 100000

/-! ## The obligation -/

/-- The grid coordinates of a subcore. -/
def coordsV (c : Fin (grid0.bound 0)) (s : Fin (grid0.bound 1)) : grid0.Coords :=
  fun | 0 => c | 1 => s | ⟨_ + 2, h⟩ => absurd h (Nat.not_lt.2 (Nat.le_add_left _ _))

/-- The subcores' program is the task. -/
theorem defs₀_vector (c : Fin τ.nSC) (s : Fin τ.nSub) :
    defs₀ (F := F) (.scVector c s) 0 () = SparseCore.onTile hcore0 hsub0 (fun c s => body (F := F) (coordsV c s)) ⟨⟩ c s := rfl

omit [FloatOps F] in
/-- The shape of a task's end. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task meets its obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [body_eq]
  exact (task_wp d (coordsV ⟨_, hci.1⟩ ⟨_, hci.2⟩) (tbl m d) (qt (Fin.cast nCore_zero c) (Fin.cast nSub_zero i)) (ids m d) (hpre d) hF O W hO (m (oLoc d))).trans
    (wp_mono frame _ _ fun _ => obl_post)

/-! ## The split over the tasks -/

omit [FloatOps F] in
/-- A SparseCore's sixteen subcores, one by one. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed is what its subcores are handed. -/
theorem stP_tasks (d : Dev nD) (c : Fin 2) (o : S1024x128.Idx → F .f32) :
    stP m d c o = bigSep Finset.univ fun i : Fin 16 => goP m d c i o := by
  have e1 : (iSh (F := F) d (qc c) (ids m d) : sProp 𝕄) = bigSep Finset.univ fun i : Fin 16 => iSh (F := F) d (qt c i) (ids m d) := pointsTo_leaves _ _ 4 _
  have e2 : (xSh d (qc c) (tbl m d) : sProp 𝕄) = bigSep Finset.univ fun i : Fin 16 => xSh d (qt c i) (tbl m d) := pointsTo_leaves _ _ 4 _
  unfold stP goP
  rw [e1, e2, bigSep_sep', bigSep_sep']

/-- So the call splits among the subcores. -/
theorem vecSplit : (K (F := F)).VecSplit' (P m) 0 := by
  intro d c
  show stP m d (Fin.cast nCore_zero c) (m (oLoc d)) ⊢ |={Set.univ}=> iprop(
      (bigSep Finset.univ fun i : Fin ((K (F := F)).nSub 0) => goP m d (Fin.cast nCore_zero c) (Fin.cast nSub_zero i) (m (oLoc d)))
      ∗ ((bigSep Finset.univ fun i : Fin ((K (F := F)).nSub 0) => goP m d (Fin.cast nCore_zero c) (Fin.cast nSub_zero i) (poolF (tbl m d) (ids m d)))
          -∗ stP m d (Fin.cast nCore_zero c) (poolF (tbl m d) (ids m d))))
  rw [bigSep_tasks (F := F) (fun i => goP m d (Fin.cast nCore_zero c) i (m (oLoc d))),
    bigSep_tasks (F := F) (fun i => goP m d (Fin.cast nCore_zero c) i (poolF (tbl m d) (ids m d))), stP_tasks, stP_tasks]
  iintro H; imodintro
  isplitl [H]; · iexact H
  iintro H; iexact H

/-! ## The split over the SparseCores -/

/-- Different tasks' rows do not meet. -/
theorem oSet_disjoint : ∀ w ∈ (Finset.univ : Finset (Fin 32)), ∀ w' ∈ (Finset.univ : Finset (Fin 32)), w ≠ w' → Disjoint (oSet w) (oSet w') :=
  fun _ _ _ _ h => Rect.part_disjoint odiv h
/-- The tasks' rows make up the output. -/
theorem oSet_cover : (Finset.univ : Finset (Fin 32)).biUnion oSet = Finset.univ := Rect.biUnion_part odiv

/-- A pair of core and subcore is a task. -/
def wEquiv : Fin 2 × Fin 16 ≃ Fin 32 where
  toFun x := wof x.1 x.2
  invFun w := (⟨w.val % 2, by omega⟩, ⟨w.val / 2, by omega⟩)
  left_inv x := by
    refine Prod.ext (Fin.ext ?_) (Fin.ext ?_)
    · show (2 * x.2.val + x.1.val) % 2 = x.1.val
      omega
    · show (2 * x.2.val + x.1.val) / 2 = x.2.val
      omega
  right_inv w := Fin.ext (by show 2 * (w.val / 2) + w.val % 2 = w.val; omega)

omit [FloatOps F] in
/-- The output is its tasks' rows. -/
theorem out_rows (d : Dev nD) (o : S1024x128.Idx → F .f32) :
    (oLoc d ↦{fullShare} (o : Buf (Elt F) (oLoc d)) : sProp 𝕄) = bigSep Finset.univ fun c : Fin 2 => bigSep Finset.univ fun i : Fin 16 => oSh d (wof c i) o := by
  rw [← BI.bigSep_univ_prod (fun x : Fin 2 × Fin 16 => (oSh d (wof x.1 x.2) o : sProp 𝕄))]
  refine Eq.trans ?_ (bigSep_univ_equiv wEquiv.symm fun x : Fin 2 × Fin 16 => (oSh d (wof x.1 x.2) o : sProp 𝕄)).symm
  refine Eq.trans ?_ (bigSep_congr fun w _ => (congrArg (fun w' => (oSh d w' o : sProp 𝕄)) (wEquiv.apply_symm_apply w)).symm)
  unfold oSh
  rw [← pointsTo_biUnion Finset.univ (ℓ := oLoc d) oSet oSet_disjoint, oSet_cover]

/-- What both SparseCores are handed. -/
theorem st_all (d : Dev nD) (o : S1024x128.Idx → F .f32) :
    (bigSep Finset.univ fun c : Fin 2 => stP m d c o)
      = iprop((iLoc d ↦{fullShare} m (iLoc d)) ∗ (xLoc d ↦{fullShare} m (xLoc d)) ∗ (oLoc d ↦{fullShare} (o : Buf (Elt F) (oLoc d)))) := by
  have e1 : (iLoc d ↦{fullShare} m (iLoc d) : sProp 𝕄) = bigSep Finset.univ fun c : Fin 2 => iSh (F := F) d (qc c) (ids m d) := pointsTo_leaves _ _ 1 _
  have e2 : (xLoc d ↦{fullShare} m (xLoc d) : sProp 𝕄) = bigSep Finset.univ fun c : Fin 2 => xSh d (qc c) (tbl m d) := pointsTo_leaves _ _ 1 _
  unfold stP
  rw [e1, e2, out_rows, bigSep_sep', bigSep_sep']

/-- What the call takes. -/
theorem st0_eq (d : Dev nD) : (bigSep Finset.univ fun c : Fin ((K (F := F)).nCore 0) => (P m).st 0 d c)
    = iprop((iLoc d ↦{fullShare} m (iLoc d)) ∗ (xLoc d ↦{fullShare} m (xLoc d)) ∗ oLoc d ↦{fullShare} m (oLoc d)) := st_all m d (m (oLoc d))
/-- What the call gives back. -/
theorem dn0_eq (d : Dev nD) : (bigSep Finset.univ fun c : Fin ((K (F := F)).nCore 0) => (P m).dn 0 d c)
    = iprop((iLoc d ↦{fullShare} m (iLoc d)) ∗ (xLoc d ↦{fullShare} m (xLoc d)) ∗ oLoc d ↦{fullShare} (poolF (tbl m d) (ids m d) : Buf (Elt F) (oLoc d))) :=
  st_all m d (poolF (tbl m d) (ids m d))

end Cert.Proof.ILaunch
-- ==== Proof.Ideal.LogitsProg.lean ====
/-
  The logits kernel's body as four steps of one shape, one per slot of its ring of output buffers, and a drain: the
  slot whose turn it is waits for the copy it started four points ago, takes the point's tile and starts the copy of it
  out; the last point waits for the four copies still under way.
-/
module

public import proofs.«01_k».proof.Proof.Ideal.Setup
public import proofs.«01_k».proof.Proof.Gen.KernelIdeal.Points
public import proofs.«01_k».proof.Proof.Gen.KernelIdeal.Skeleton

@[expose] public section

noncomputable section

namespace Cert.Proof.ILogits

open Cert.KernelIdeal Cert.KernelIdeal.Gen
open Cert.Proof.ISetup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A program of the TensorCore with no result. -/
abbrev PB (F : FTy → Type) : Type 1 := Prog (TpuEff nD τ sig (Elt F) Λ₀ .tc) PUnit

/-- The block of the logits' array at columns `off 1` on. -/
abbrev oAt (o : Memref sig .tc .hbm S1024x100096 .f32) (off : Fin 2 → ℕ) (h : ∀ a, off a + S1024x1024.size a ≤ S1024x100096.size a) :
    Memref sig .tc .hbm S1024x1024 .f32 := o.slice (Rect.unit (s := S1024x100096) off S1024x1024.size h) (fun _ => rfl)

/-- What the slot whose turn it is does once its buffer is free: the tile into the buffer, the copy of it out started. -/
def issue (o : Memref sig .tc .hbm S1024x100096 .f32) (b : Memref sig .tc .vmem S1024x1024 .f32) (hb : b.IsWhole) (s : DmaSem sig)
    (off : Fin 2 → ℕ) (h : ∀ a, off a + S1024x1024.size a ≤ S1024x100096.size a) (w : FVec F S1024x1024 .f32) (k : PB F) : PB F := do
  let _v : Vec F S1024x1024 .f32 ← Prog.lift (.load b (Rect.unit (s := S1024x1024) ![0, 0] S1024x1024.size inb_S1024x1024_S1024x1024_0_0).toLoadRect (View.loadsAt_vmem h_S1024x1024))
  Prog.lift (.store b (Rect.unit (s := S1024x1024) ![0, 0] S1024x1024.size inb_S1024x1024_S1024x1024_0_0) w Finset.univ (View.stores_vmem_bits_univ h_S1024x1024 rfl) (.inl rfl))
  Prog.lift (.enqueueDma b (.here (oAt o off h)) (.dma s) hb.wordExact (View.wordExact_bits rfl) ⟨Or.inl rfl, trivial⟩)
  k

/-- One slot's part of the body: nothing unless it is the slot's turn. -/
def slotStep (o : Memref sig .tc .hbm S1024x100096 .f32) (b : Memref sig .tc .vmem S1024x1024 .f32) (hb : b.IsWhole) (s : DmaSem sig)
    (c1 c2 : BitVec 1) (offW offS : Fin 2 → ℕ) (hW : c1 = 1#1 → c2 = 1#1 → ∀ a, offW a + S1024x1024.size a ≤ S1024x100096.size a)
    (hS : c1 = 1#1 → ∀ a, offS a + S1024x1024.size a ≤ S1024x100096.size a) (w : FVec F S1024x1024 .f32) (k : PB F) : PB F :=
  if h1 : c1 = 1#1 then
    if h2 : c2 = 1#1 then do
      Prog.lift (.waitDma2 s b (oAt o offW (hW h1 h2)) hb.wordExact (View.wordExact_bits rfl))
      issue o b hb s offS (hS h1) w k
    else issue o b hb s offS (hS h1) w k
  else k

/-- The wait for the copy of the block at columns `off 1` on. -/
def await (o : Memref sig .tc .hbm S1024x100096 .f32) (b : Memref sig .tc .vmem S1024x1024 .f32) (hb : b.IsWhole) (s : DmaSem sig)
    (off : Fin 2 → ℕ) (h : ∀ a, off a + S1024x1024.size a ≤ S1024x100096.size a) (k : PB F) : PB F := do
  Prog.lift (.waitDma2 s b (oAt o off h) hb.wordExact (View.wordExact_bits rfl))
  k

/-- The condition of the drain. -/
def cLast (i : grid2.Coords) : BitVec 1 := Scalar.cmpi .ne (Scalar.extui (Scalar.cmpi .eq (BitVec.ofNat 32 (i 0).val) 96#32) : BitVec 32) 0#32

/-- The body in these terms. -/
def prog (i : grid2.Coords) (a1 : Memref sig .tc .vmem S1024x256 .f32) (a2 : Memref sig .tc .vmem S256x1024 .f32) (a3 : Memref sig .tc .vmem S1x1024 .f32)
    (o : Memref sig .tc .hbm S1024x100096 .f32) (b0 : Memref sig .tc .vmem S1024x1024 .f32) (h0 : b0.IsWhole) (b1 : Memref sig .tc .vmem S1024x1024 .f32) (h1 : b1.IsWhole)
    (b2 : Memref sig .tc .vmem S1024x1024 .f32) (h2 : b2.IsWhole) (b3 : Memref sig .tc .vmem S1024x1024 .f32) (h3 : b3.IsWhole) (s0 s1 s2 s3 : DmaSem sig) : PB F := do
  let v0 : Vec F S1024x256 .f32 ← Prog.lift (.load a1 (Rect.unit (s := S1024x256) ![0, 0] S1024x256.size inb_S1024x256_S1024x256_0_0).toLoadRect (View.loadsAt_vmem h_S1024x256))
  let v3 : Vec F S256x1024 .f32 ← Prog.lift (.load a2 (Rect.unit (s := S256x1024) ![0, 0] S256x1024.size inb_S256x1024_S256x1024_0_0).toLoadRect (View.loadsAt_vmem h_S256x1024))
  let v6 : Vec F S1x1024 .f32 ← Prog.lift (.load a3 (Rect.unit (s := S1x1024) ![0, 0] S1x1024.size inb_S1x1024_S1x1024_0_0).toLoadRect (View.loadsAt_vmem h_S1x1024))
  slotStep o b0 h0 s0 (k2_cond1 i) (k2_cond2 i) (k2_off1 i) (k2_off2 i) (k2_off1_inb i) (k2_off2_inb i) (k2_pay2 v0 v3 v6)
    (slotStep o b1 h1 s1 (k2_cond3 i) (k2_cond4 i) (k2_off3 i) (k2_off4 i) (k2_off3_inb i) (k2_off4_inb i) (k2_pay2 v0 v3 v6)
      (slotStep o b2 h2 s2 (k2_cond5 i) (k2_cond6 i) (k2_off5 i) (k2_off6 i) (k2_off5_inb i) (k2_off6_inb i) (k2_pay2 v0 v3 v6)
        (slotStep o b3 h3 s3 (k2_cond7 i) (k2_cond8 i) (k2_off7 i) (k2_off8 i) (k2_off7_inb i) (k2_off8_inb i) (k2_pay2 v0 v3 v6)
          (if cLast i = 1#1 then
            await o b0 h0 s0 ![0, 98304] inb_S1024x100096_S1024x1024_0_98304
              (await o b3 h3 s3 ![0, 97280] inb_S1024x100096_S1024x1024_0_97280
                (await o b2 h2 s2 ![0, 96256] inb_S1024x100096_S1024x1024_0_96256
                  (await o b1 h1 s1 ![0, 95232] inb_S1024x100096_S1024x1024_0_95232 (pure ⟨⟩))))
           else pure ⟨⟩))))

set_option maxRecDepth 65536 in
set_option maxHeartbeats 2000000 in
/-- The printed body is the tile's computation, the same step for each of the four buffers, and the last waits. -/
theorem body_eq (i : grid2.Coords) (a1 : Memref sig .tc .vmem S1024x256 .f32) (g1 : a1.IsWhole) (a2 : Memref sig .tc .vmem S256x1024 .f32) (g2 : a2.IsWhole)
    (a3 : Memref sig .tc .vmem S1x1024 .f32) (g3 : a3.IsWhole) (o : Memref sig .tc .hbm S1024x100096 .f32) (g4 : o.IsWhole)
    (b0 : Memref sig .tc .vmem S1024x1024 .f32) (h0 : b0.IsWhole) (b1 : Memref sig .tc .vmem S1024x1024 .f32) (h1 : b1.IsWhole)
    (b2 : Memref sig .tc .vmem S1024x1024 .f32) (h2 : b2.IsWhole) (b3 : Memref sig .tc .vmem S1024x1024 .f32) (h3 : b3.IsWhole)
    (s0 s1 s2 s3 : DmaSems sig S_) :
    cc2__logits_body (F := F) i a1 g1 a2 g2 a3 g3 o g4 b0 h0 b1 h1 b2 h2 b3 h3 s0 s1 s2 s3
      = prog i a1 a2 a3 o b0 h0 b1 h1 b2 h2 b3 h3 s0.sem s1.sem s2.sem s3.sem := by
  rw [cc2__logits_body_eq_skeleton]
  rfl

end Cert.Proof.ILogits
-- ==== Proof.Ideal.Head.lean ====
/-
  The head's pipelined call: what its body leaves in the two results' staging buffers, and the call as a region of
  @main that takes the arrays at any contents.
-/
module

public import proofs.«01_k».proof.Proof.Ideal.Setup
public import proofs.«01_k».proof.Proof.Gen.KernelIdeal.Points
public import proofs.«01_k».proof.Proof.Gen.KernelIdeal.Skeleton
public import Idealize.ShloMosaic.Lib.Pipeline.Frame
public import Idealize.ShloMosaic.Lib.Pipeline.RegionArrays
public import Idealize.ShloMosaic.Lib.Pipeline.Value
public import Idealize.ShloMosaic.Lib.Pipeline.ValueKit
public import Idealize.ShloMosaic.Lib.VecWindow

@[expose] public section

noncomputable section

namespace Cert.Proof.IHead

open Cert.KernelIdeal Cert.KernelIdeal.Gen
open Cert.Proof.ISetup
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-- A whole buffer held with its contents. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- Loading a view through the rectangle that is all of it reads it. -/
theorem load_full {sp : Space} {n0 n1 : ℕ} {e : EltTy} (v : View sig .tc sp (⟨2, ![n0, n1]⟩ : Shape) e) (f : v.ty.Contents (Elt F))
    (inb : ∀ a, (![0, 0] : Fin 2 → ℕ) a + (⟨2, ![n0, n1]⟩ : Shape).size a ≤ (⟨2, ![n0, n1]⟩ : Shape).size a) :
    v.readAt (Elt F) (Rect.unit (s := (⟨2, ![n0, n1]⟩ : Shape)) ![0, 0] (⟨2, ![n0, n1]⟩ : Shape).size inb).toLoadRect f = v.read (Elt F) f := by
  funext x
  show v.read (Elt F) f _ = v.read (Elt F) f x
  congr 1
  funext a
  apply Fin.ext
  have h0 : (![0, 0] : Fin 2 → ℕ) a = 0 := by fin_cases a <;> rfl
  show (![0, 0] : Fin 2 → ℕ) a + 1 * (x a).val = (x a).val
  omega

/-- Reading the whole hidden layer's buffer. -/
theorem rd8 (g : S1024x256.Idx → F .f32) : (stage1_8 0).view.read (Elt F) g = g := by rfl
/-- Reading the whole values' buffer. -/
theorem rd9 (g : S1024x1.Idx → F .f32) : (stage1_9 0).view.read (Elt F) g = g := by
  show View.read (Elt F) (Memref.whole cc1_stg9_0).view g = g
  rfl

/-- The head's body: from its arguments in the staging buffers it leaves the hidden layer and the values in the results' buffers. -/
theorem wp_head (c : Dev nD) (f0 : S1024x50.Idx → BitVec 32) (f1 : S1024x128.Idx → F .f32) (f2 : S128x256.Idx → F .f32) (f3 : S1x256.Idx → F .f32)
    (f4 : S256x256.Idx → F .f32) (f5 : S1x256.Idx → F .f32) (f6 : S256x1.Idx → F .f32) (f7 : S1x1.Idx → F .f32) (f8 : S1024x256.Idx → F .f32) (f9 : S1024x1.Idx → F .f32)
    (E : Set ℕ) (Q : PUnit → sProp 𝕄) :
    iprop(pt c (stage1_0 0) f0 ∗ pt c (stage1_1 0) f1 ∗ pt c (stage1_2 0) f2 ∗ pt c (stage1_3 0) f3 ∗ pt c (stage1_4 0) f4 ∗ pt c (stage1_5 0) f5
        ∗ pt c (stage1_6 0) f6 ∗ pt c (stage1_7 0) f7 ∗ pt c (stage1_8 0) f8 ∗ pt c (stage1_9 0) f9
        ∗ (iprop(pt c (stage1_0 0) f0 ∗ pt c (stage1_1 0) f1 ∗ pt c (stage1_2 0) f2 ∗ pt c (stage1_3 0) f3 ∗ pt c (stage1_4 0) f4 ∗ pt c (stage1_5 0) f5
            ∗ pt c (stage1_6 0) f6 ∗ pt c (stage1_7 0) f7 ∗ pt c (stage1_8 0) (k1_pay2 f0 f1 f2 f3 f4 f5) ∗ pt c (stage1_9 0) (k1_pay1 (k1_pay3 f0 f1 f2 f3 f4 f5 f6) f7)) -∗ Q ⟨⟩))
      ⊢ wp frame (wpE (defs₀ (F := F)) 𝒱₀ c none) E (bodyAt1 t1_0) Q := by
  unfold bodyAt1
  rw [cc1__head_body_eq_skeleton]
  iintro ⟨H0, H1, H2, H3, H4, H5, H6, H7, H8, H9, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · rw [show (stage1_8 0).view.writes (Elt F) (stage1_8 0).view.junk (wp_head.sl.H8_1 f0 f1 f2 f3 f4 f5) = k1_pay2 f0 f1 f2 f3 f4 f5 from by
      unfold wp_head.sl.H8_1
      rw [← rd8 ((stage1_8 0).view.writes (Elt F) (stage1_8 0).view.junk _)]
      rw [View.read_writes_full, load_full, load_full, load_full, load_full, load_full, load_full]
      rfl]
    iexact H8
  · rw [show (stage1_9 0).view.writes (Elt F) (stage1_9 0).view.junk (wp_head.sl.H9_1 f0 f1 f2 f3 f4 f5 f6 f7) = k1_pay1 (k1_pay3 f0 f1 f2 f3 f4 f5 f6) f7 from by
      unfold wp_head.sl.H9_1
      rw [← rd9 ((stage1_9 0).view.writes (Elt F) (stage1_9 0).view.junk _)]
      unfold wp_head.sl.r wp_head.sl.r_1
      rw [View.read_writes_full, load_full, load_full, load_full, load_full, load_full, load_full, load_full, load_full]
      rfl]
    iexact H9

/-! ## The proof data, at an entry valuation -/

variable (V : (c : Dev nD) → (b : Ref sig .tc) → Buf (Elt F) ((c : Thread nD τ).loc b))

/-- The second layer's output, from the arrays as the region finds them. -/
def h2 (c : Dev nD) : S1024x256.Idx → F .f32 :=
  k1_pay2 (V c main_arg0) (V c main_v0) (V c main_arg2) (V c main_v1) (V c main_arg4) (V c main_v2)
/-- The values column, from the arrays as the region finds them. -/
def vals (c : Dev nD) : S1024x1.Idx → F .f32 :=
  k1_pay1 (k1_pay3 (V c main_arg0) (V c main_v0) (V c main_arg2) (V c main_v1) (V c main_arg4) (V c main_v2) (V c main_arg6)) (V c main_v3)

/-- What rides beside the arrays inside the region: the scoped buffers that no window of it stages. -/
abbrev Φ1 (c : Dev nD) : sProp 𝕄 := Pipeline.scopedRest (Ix := SparseCore.Cfg.HIx 1) (Name := ℕ) (U := UU) (Lvl := ℕ) (Val := Elt F) spec1 c

/-- The pairs that a thread's waits may have recorded when its state after call `n` is to be kept. -/
def below (c : Dev nD) : Set (SemLoc sig × SparseCore.Cfg.HIx 1) := {p | (K (F := F)).lev (SparseCore.T c, p.1) p.2 ≤ 8}

/-- The proof data of the head's region entered at `V`. -/
def dat1 (c : Dev nD) : Dat τ (Elt F) (SparseCore.Cfg.HIx 1) ℕ UU ℕ cfg1 c where
  A w := V c (Pipeline.arrRef spec1 w)
  after w _ := match w with
    | ⟨0, _⟩ => V c main_arg0
    | ⟨1, _⟩ => V c main_v0
    | ⟨2, _⟩ => V c main_arg2
    | ⟨3, _⟩ => V c main_v1
    | ⟨4, _⟩ => V c main_arg4
    | ⟨5, _⟩ => V c main_v2
    | ⟨6, _⟩ => V c main_arg6
    | ⟨7, _⟩ => V c main_v3
    | ⟨8, _⟩ => h2 V c
    | ⟨9, _⟩ => vals V c
  Φ _ := Φ1 c
  q _ := fullShare
  owed _ := 0
  recorded _ := below (F := F) c

/-- A proof data for the pipeline that this region does not run. -/
def junkDat {cfg : Cfg sig Λ₀} (c : Dev nD) : Dat τ (Elt F) (SparseCore.Cfg.HIx 1) ℕ UU ℕ cfg c where
  A _ := fun _ => Classical.arbitrary _
  after _ _ := fun _ => Classical.arbitrary _
  Φ _ := BI.emp
  q _ := fullShare
  owed _ := 0

/-- The region leaves the second layer's output whole in its array. -/
theorem out8 (c : Dev nD) : (dat1 V c).arrAt 8 cfg1.N = h2 V c := by
  refine (dat1 V c).arrAt_eq_of_after_last 8 t1_0 (by decide +kernel) _ fun j => ?_
  rfl

/-- And the values column. -/
theorem out9 (c : Dev nD) : (dat1 V c).arrAt 9 cfg1.N = vals V c := by
  refine (dat1 V c).arrAt_eq_of_after_last 9 t1_0 (by decide +kernel) _ fun j => ?_
  rfl

variable (adm : (p : Fin 2) → (pcfgs (F := F) p).Adm)

/-- The proof data of both regions, with the head's at its place. -/
def pdats1 : (p : Fin 2) → (c : Dev nD) → Dat τ (Elt F) (SparseCore.Cfg.HIx 1) ℕ UU ℕ (Pipeline.pin (pcfgs (F := F)) adm p) c
  | ⟨0, _⟩ => fun c => dat1 V c
  | ⟨1, _⟩ => fun c => junkDat c

/-- Before the only grid point, window 0 holds its whole argument. -/
theorem before0 (c : Dev nD) (d : (cfg1.win 0).block.Idx → Elt F (cfg1.win 0).elt) : (dat1 V c).before 0 t1_0 d = V c main_arg0 := by
  unfold Dat.before
  rw [if_pos (by decide)]
  show ((cfg1.win 0).blk t1_0).view.read (Elt F) (V c main_arg0) = V c main_arg0
  funext j
  show V c main_arg0 _ = V c main_arg0 j
  congr 1
  funext a
  apply Fin.ext
  fin_cases a <;> blk_simp <;> first | exact Nat.zero_add _ | rfl

/-- Before the only grid point, window 1 holds its whole argument. -/
theorem before1 (c : Dev nD) (d : (cfg1.win 1).block.Idx → Elt F (cfg1.win 1).elt) : (dat1 V c).before 1 t1_0 d = V c main_v0 := by
  unfold Dat.before
  rw [if_pos (by decide)]
  show ((cfg1.win 1).blk t1_0).view.read (Elt F) (V c main_v0) = V c main_v0
  funext j
  show V c main_v0 _ = V c main_v0 j
  congr 1
  funext a
  apply Fin.ext
  fin_cases a <;> blk_simp <;> first | exact Nat.zero_add _ | rfl

/-- Before the only grid point, window 2 holds its whole argument. -/
theorem before2 (c : Dev nD) (d : (cfg1.win 2).block.Idx → Elt F (cfg1.win 2).elt) : (dat1 V c).before 2 t1_0 d = V c main_arg2 := by
  unfold Dat.before
  rw [if_pos (by decide)]
  show ((cfg1.win 2).blk t1_0).view.read (Elt F) (V c main_arg2) = V c main_arg2
  funext j
  show V c main_arg2 _ = V c main_arg2 j
  congr 1
  funext a
  apply Fin.ext
  fin_cases a <;> blk_simp <;> first | exact Nat.zero_add _ | rfl

/-- Before the only grid point, window 3 holds its whole argument. -/
theorem before3 (c : Dev nD) (d : (cfg1.win 3).block.Idx → Elt F (cfg1.win 3).elt) : (dat1 V c).before 3 t1_0 d = V c main_v1 := by
  unfold Dat.before
  rw [if_pos (by decide)]
  show ((cfg1.win 3).blk t1_0).view.read (Elt F) (V c main_v1) = V c main_v1
  funext j
  show V c main_v1 _ = V c main_v1 j
  congr 1
  funext a
  apply Fin.ext
  fin_cases a <;> blk_simp <;> first | exact Nat.zero_add _ | rfl

/-- Before the only grid point, window 4 holds its whole argument. -/
theorem before4 (c : Dev nD) (d : (cfg1.win 4).block.Idx → Elt F (cfg1.win 4).elt) : (dat1 V c).before 4 t1_0 d = V c main_arg4 := by
  unfold Dat.before
  rw [if_pos (by decide)]
  show ((cfg1.win 4).blk t1_0).view.read (Elt F) (V c main_arg4) = V c main_arg4
  funext j
  show V c main_arg4 _ = V c main_arg4 j
  congr 1
  funext a
  apply Fin.ext
  fin_cases a <;> blk_simp <;> first | exact Nat.zero_add _ | rfl

/-- Before the only grid point, window 5 holds its whole argument. -/
theorem before5 (c : Dev nD) (d : (cfg1.win 5).block.Idx → Elt F (cfg1.win 5).elt) : (dat1 V c).before 5 t1_0 d = V c main_v2 := by
  unfold Dat.before
  rw [if_pos (by decide)]
  show ((cfg1.win 5).blk t1_0).view.read (Elt F) (V c main_v2) = V c main_v2
  funext j
  show V c main_v2 _ = V c main_v2 j
  congr 1
  funext a
  apply Fin.ext
  fin_cases a <;> blk_simp <;> first | exact Nat.zero_add _ | rfl

/-- Before the only grid point, window 6 holds its whole argument. -/
theorem before6 (c : Dev nD) (d : (cfg1.win 6).block.Idx → Elt F (cfg1.win 6).elt) : (dat1 V c).before 6 t1_0 d = V c main_arg6 := by
  unfold Dat.before
  rw [if_pos (by decide)]
  show ((cfg1.win 6).blk t1_0).view.read (Elt F) (V c main_arg6) = V c main_arg6
  funext j
  show V c main_arg6 _ = V c main_arg6 j
  congr 1
  funext a
  apply Fin.ext
  fin_cases a <;> blk_simp <;> first | exact Nat.zero_add _ | rfl

/-- Before the only grid point, window 7 holds its whole argument. -/
theorem before7 (c : Dev nD) (d : (cfg1.win 7).block.Idx → Elt F (cfg1.win 7).elt) : (dat1 V c).before 7 t1_0 d = V c main_v3 := by
  unfold Dat.before
  rw [if_pos (by decide)]
  show ((cfg1.win 7).blk t1_0).view.read (Elt F) (V c main_v3) = V c main_v3
  funext j
  show V c main_v3 _ = V c main_v3 j
  congr 1
  funext a
  apply Fin.ext
  fin_cases a <;> blk_simp <;> first | exact Nat.zero_add _ | rfl

/-- The head's body meets its obligation. -/
theorem body1 (c : Dev nD) : BodyObligation (dat1 V c) (defs₀ (F := F)) 𝒱₀ none Set.univ := fun t => by
  obtain rfl := fin_N1 t
  rw [bigSep_W1, bigSep_W1]
  simp only [owns_whole_eq]
  rw [show (dat1 V c).Φ t1_0.castSucc = Φ1 c from rfl, show (dat1 V c).Φ t1_0.succ = Φ1 c from rfl,
    show (dat1 V c).owesAt none t1_0.succ = (dat1 V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, %hf6, H6⟩, ⟨%d7, %f7, %hf7, H7⟩, ⟨%d8, %f8, -, H8⟩, ⟨%d9, %f9, -, H9⟩⟩
  rw [before0] at hf0
  rw [before1] at hf1
  rw [before2] at hf2
  rw [before3] at hf3
  rw [before4] at hf4
  rw [before5] at hf5
  rw [before6] at hf6
  rw [before7] at hf7
  subst hf0 hf1 hf2 hf3 hf4 hf5 hf6 hf7
  iapply (wp_head c (V c main_arg0) (V c main_v0) (V c main_arg2) (V c main_v1) (V c main_arg4) (V c main_v2) (V c main_arg6) (V c main_v3) f8 f9 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [HΦ]; · iexact HΦ
  isplitl [Howes]; · iexact Howes
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  isplitl [H4]; · iexists _; isplitr; swap; (· iexact H4); ipureintro; dsimp only [dat1]
  isplitl [H5]; · iexists _; isplitr; swap; (· iexact H5); ipureintro; dsimp only [dat1]
  isplitl [H6]; · iexists _; isplitr; swap; (· iexact H6); ipureintro; dsimp only [dat1]
  isplitl [H7]; · iexists _; isplitr; swap; (· iexact H7); ipureintro; dsimp only [dat1]
  isplitl [H8]; · iexists _; isplitr; swap; (· iexact H8); ipureintro; dsimp only [dat1, h2]
  iexists _; isplitr; swap; (· iexact H9); ipureintro; dsimp only [dat1, vals]

/-! ## The region over the thread state -/

/-- What @main's thread owes between its steps, once its one SparseCore call has returned: nothing, its waits on
    record at the levels that call allows. -/
abbrev owesDone (c : Dev nD) : sProp 𝕄 :=
  iprop(∃ W, ⌜(K (F := F)).WBelow (SparseCore.T c) W 8⌝ ∗ owes (c : Thread nD τ) (0 : CellTallies nD τ sig (SparseCore.Cfg.HIx 1)) W)

variable (Vp : (c : Dev nD) → (b : Ref sig .tc) → Buf (Elt F) ((c : Thread nD τ).loc b))

set_option backward.isDefEq.respectTransparency.types false in
/-- The head's region, entered with every array at `V` and left with them at `Vp`: the head's two results at their
    values, everything else as it was. -/
def reg1 (hV8 : ∀ c, Vp c main_v4_0 = h2 V c) (hV9 : ∀ c, Vp c main_v4_1 = vals V c)
    (hVne : ∀ c (b : Ref sig .tc), b ≠ main_v4_0 → b ≠ main_v4_1 → Vp c b = V c b) :
    Pipeline.RegionSeg (pcfgs (F := F)) adm (pdats1 V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ (K (F := F)).L (K (F := F)).lev 0 fun _ _ => rfl
  pre c := iprop(unscopedBufs c (V c) ∗ owesDone c)
  post c := iprop(unscopedBufs c (Vp c) ∗ owesDone c)
  X _ := BI.emp
  Y _ := BI.emp
  Z c := Pipeline.unscopedRest (Ix := SparseCore.Cfg.HIx 1) (Name := ℕ) (U := UU) (Lvl := ℕ) spec1 c (V c)
  hentry c := by
    rw [Pipeline.ownSems0_none]
    have hsplit := Pipeline.arrays_of_unscopedBufs (p := 0) (pcfgs (F := F)) adm (pdats1 V adm) launch1.win launch1.arr_whole c
      ((pdats1 V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats1 V adm 0 c).Φ 0 = Φ1 c from rfl]
    iintro ⟨-, -, Hr⟩; iexact Hr
  hout c := by
    rw [Pipeline.ownSems0_none, show (pdats1 V adm 0 c).Φ (Fin.last _) = Φ1 c from rfl]
    iintro Hr
    isplitr; · iempintro
    isplitr; · iempintro
    iexact Hr
  hexit c := by
    have hjoin := Pipeline.unscopedBufs_of_arrays (p := 0) (pcfgs (F := F)) adm (Ix := SparseCore.Cfg.HIx 1) (Name := ℕ) (U := UU) (Lvl := ℕ) launch1.win launch1.arr_whole c
      (pdats1 V adm) ((pdats1 V adm 0 c).share_full fun _ => rfl) (V c) (Vp c) ((pdats1 V adm 0 c).arrAt · cfg1.N)
      (fun w => by
        fin_cases w
        · exact ((pdats1 V adm 0 c).arrAt_in 0 rfl _).trans (hVne c main_arg0 (by decide) (by decide)).symm
        · exact ((pdats1 V adm 0 c).arrAt_in 1 rfl _).trans (hVne c main_v0 (by decide) (by decide)).symm
        · exact ((pdats1 V adm 0 c).arrAt_in 2 rfl _).trans (hVne c main_arg2 (by decide) (by decide)).symm
        · exact ((pdats1 V adm 0 c).arrAt_in 3 rfl _).trans (hVne c main_v1 (by decide) (by decide)).symm
        · exact ((pdats1 V adm 0 c).arrAt_in 4 rfl _).trans (hVne c main_arg4 (by decide) (by decide)).symm
        · exact ((pdats1 V adm 0 c).arrAt_in 5 rfl _).trans (hVne c main_v2 (by decide) (by decide)).symm
        · exact ((pdats1 V adm 0 c).arrAt_in 6 rfl _).trans (hVne c main_arg6 (by decide) (by decide)).symm
        · exact ((pdats1 V adm 0 c).arrAt_in 7 rfl _).trans (hVne c main_v3 (by decide) (by decide)).symm
        · exact (out8 V c).trans (hV8 c).symm
        · exact (out9 V c).trans (hV9 c).symm)
      (fun b hb => hVne c b (fun h => hb (h ▸ Finset.mem_image.mpr ⟨8, Finset.mem_univ _, rfl⟩)) (fun h => hb (h ▸ Finset.mem_image.mpr ⟨9, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    · iexact HO

end Cert.Proof.IHead
-- ==== Proof.Ideal.LogitsRing.lean ====
/-
  The logits kernel's ring of four output buffers as an assertion: where each block of the logits' array is — untouched,
  on its way out of a slot's buffer, or written — and what each slot holds. The two moves between such states are the
  start of a copy and the wait for one.
-/
module

public import proofs.«01_k».proof.Proof.Ideal.LogitsProg
public import proofs.«01_k».proof.Proof.Ideal.Head
public import Idealize.ShloMosaic.Lib.ValueIdx

@[expose] public section

noncomputable section

namespace Cert.Proof.ILogits

open Cert.KernelIdeal Cert.KernelIdeal.Gen
open Cert.Proof.ISetup
open Cert.Proof.IHead (pt load_full)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- The logits' array. -/
abbrev oM : Memref sig .tc .hbm S1024x100096 .f32 := Memref.whole main_v6

/-- The buffer of slot `p`. -/
def bufM : Fin 4 → Memref sig .tc .vmem S1024x1024 .f32
  | 0 => Memref.whole cc2_scratch0
  | 1 => Memref.whole cc2_scratch1
  | 2 => Memref.whole cc2_scratch2
  | 3 => Memref.whole cc2_scratch3

/-- The semaphore of slot `p`. -/
def semS : Fin 4 → DmaSem sig
  | 0 => cc2_scratch4.sem
  | 1 => cc2_scratch5.sem
  | 2 => cc2_scratch6.sem
  | 3 => cc2_scratch7.sem

/-- The columns of block `b`. -/
def blkSet (b : Fin 98) : Finset S1024x100096.Idx := Finset.univ.filter fun i => (i 1).val / 1024 = b.val

/-- Block `b` of contents of the logits' array. -/
def tileOf (fin : S1024x100096.Idx → F .f32) (b : ℕ) (hb : b < 97) : S1024x1024.Idx → F .f32 := fun x =>
  fin (ix2 (x 0 : Fin 1024) (⟨1024 * b + (x 1).val, by have : (x 1).val < 1024 := (x 1).isLt; omega⟩ : Fin 100096))

/-- The slice at column `1024 b` is column block `b`. -/
theorem set_oAt (b : Fin 98) (off : Fin 2 → ℕ) (h : ∀ a, off a + S1024x1024.size a ≤ S1024x100096.size a) (hoff : off = ![0, 1024 * b.val]) :
    (oAt oM off h).view.set = blkSet b := by
  subst hoff
  ext i
  unfold blkSet
  rw [Finset.mem_filter]
  constructor
  · intro hi
    obtain ⟨x, -, rfl⟩ := Finset.mem_map.mp hi
    refine ⟨Finset.mem_univ _, ?_⟩
    show (1024 * b.val + 1 * (x 1).val) / 1024 = b.val
    have : (x 1).val < 1024 := (x 1).isLt
    omega
  · rintro ⟨-, hi⟩
    have h1 := h 1
    have h1' : 1024 * b.val + 1024 ≤ 100096 := h1
    have hi0 : (i 0).val < 1024 := (i 0).isLt
    refine Finset.mem_map.mpr ⟨ix2 (⟨(i 0).val, hi0⟩ : Fin 1024) (⟨(i 1).val - 1024 * b.val, by omega⟩ : Fin 1024), Finset.mem_univ _, ?_⟩
    funext a
    apply Fin.ext
    match a with
    | 0 => show 0 + 1 * (i 0).val = (i 0).val; omega
    | 1 => show 1024 * b.val + 1 * ((i 1).val - 1024 * b.val) = (i 1).val; omega

/-- The tile written over a block agrees there with the contents it is a block of. -/
theorem write_tile (fin f0 : S1024x100096.Idx → F .f32) (b : Fin 98) (hb : b.val < 97) (off : Fin 2 → ℕ)
    (h : ∀ a, off a + S1024x1024.size a ≤ S1024x100096.size a) (hoff : off = ![0, 1024 * b.val]) (i : S1024x100096.Idx) (hi : i ∈ blkSet b) :
    (oAt oM off h).view.write (Elt F) f0 (tileOf fin b.val hb) Finset.univ i = fin i := by
  rw [← set_oAt b off h hoff] at hi
  obtain ⟨x, -, rfl⟩ := Finset.mem_map.mp hi
  subst hoff
  have hw := congrFun (View.read_write_univ (v := (oAt oM ![0, 1024 * b.val] h).view) (Val := Elt F) f0 (tileOf fin b.val hb)) x
  rw [View.read_apply] at hw
  refine ((cast_eq _ _).symm.trans hw).trans ?_
  unfold tileOf
  congr 1
  funext a
  apply Fin.ext
  match a with
  | 0 => show (x 0).val = 0 + 1 * (x 0).val; omega
  | 1 => show 1024 * b.val + (x 1).val = 1024 * b.val + 1 * (x 1).val; omega

variable (c : Dev nD) (f0 fin : S1024x100096.Idx → F .f32)

/-- The credit of a copy of one tile. -/
abbrev NB : ℕ := (oAt oM ![0, 0] (by decide)).view.dmaCredit

/-- The logits' array. -/
abbrev oLoc : Loc nD τ sig := (SparseCore.T c).loc main_v6

/-- A block of the logits' array, where it lies: with a copy under way, as found, or written. -/
def home : Option Bool → Fin 98 → sProp 𝕄
  | none, _ => BI.emp
  | some false, b => oLoc c ↦[blkSet b]{fullShare} f0
  | some true, b => oLoc c ↦[blkSet b]{fullShare} fin

/-- A slot: at rest, or with the copy of a block under way. -/
def slotR : Option (Fin 98) → Fin 4 → sProp 𝕄
  | none, p => iprop((∃ g, pt c (bufM p) g) ∗ semVal ((c : Thread nD τ), .dma (semS p)) 0)
  | some b, p => Transfers.Flight countersEmb (c : Thread nD τ) (.dma (semS p)) (none : SparseCore.Cfg.HIx 1) NB
      iprop((oLoc c ↦[blkSet b]{fullShare} fin) ∗ ∃ g, pt c (bufM p) g)

omit [FloatOps F] in
/-- A free buffer's resources. -/
theorem slotR_none (p : Fin 4) : (slotR c fin none p : sProp 𝕄) = iprop((∃ g, pt c (bufM p) g) ∗ semVal ((c : Thread nD τ), .dma (semS p)) 0) := rfl

omit [FloatOps F] in
/-- A buffer's resources while its copy is in flight. -/
theorem slotR_some (b : Fin 98) (p : Fin 4) :
    (slotR c fin (some b) p : sProp 𝕄) = Transfers.Flight countersEmb (c : Thread nD τ) (.dma (semS p)) (none : SparseCore.Cfg.HIx 1) NB
      iprop((oLoc c ↦[blkSet b]{fullShare} fin) ∗ ∃ g, pt c (bufM p) g) := rfl

omit [FloatOps F] in
/-- A block in flight is held by its buffer. -/
theorem home_none (b : Fin 98) : (home c f0 fin none b : sProp 𝕄) = BI.emp := rfl
omit [FloatOps F] in
/-- A block not yet written is as it was found. -/
theorem home_found (b : Fin 98) : (home c f0 fin (some false) b : sProp 𝕄) = oLoc c ↦[blkSet b]{fullShare} f0 := rfl
omit [FloatOps F] in
/-- A block written holds the final contents. -/
theorem home_written (b : Fin 98) : (home c f0 fin (some true) b : sProp 𝕄) = oLoc c ↦[blkSet b]{fullShare} fin := rfl

/-- The ring: every block's place and every slot's state. -/
def res (hm : Fin 98 → Option Bool) (st : Fin 4 → Option (Fin 98)) : sProp 𝕄 :=
  iprop((bigSep Finset.univ fun b => home c f0 fin (hm b) b) ∗ bigSep Finset.univ fun p => slotR c fin (st p) p)

omit [FloatOps F] in
/-- One block taken out of all, to be put back in another state. -/
theorem homes_split (hm : Fin 98 → Option Bool) (b : Fin 98) (v : Option Bool) :
    (bigSep Finset.univ fun b' => home c f0 fin (Function.update hm b v b') b' : sProp 𝕄)
      = iprop(home c f0 fin v b ∗ bigSep (Finset.univ.erase b) fun b' => home c f0 fin (hm b') b') := by
  rw [bigSep_univ_split b, Function.update_self]
  exact congrArg (fun X : sProp 𝕄 => iprop(home c f0 fin v b ∗ X)) (bigSep_congr fun b' hb => by rw [Function.update_of_ne (Finset.ne_of_mem_erase hb)])

omit [FloatOps F] in
/-- One buffer taken out of all, to be put back in another state. -/
theorem slots_split (st : Fin 4 → Option (Fin 98)) (p : Fin 4) (v : Option (Fin 98)) :
    (bigSep Finset.univ fun p' => slotR c fin (Function.update st p v p') p' : sProp 𝕄)
      = iprop(slotR c fin v p ∗ bigSep (Finset.univ.erase p) fun p' => slotR c fin (st p') p') := by
  rw [bigSep_univ_split p, Function.update_self]
  exact congrArg (fun X : sProp 𝕄 => iprop(slotR c fin v p ∗ X)) (bigSep_congr fun b' hb => by rw [Function.update_of_ne (Finset.ne_of_mem_erase hb)])

/-- What the thread owes: nothing, with its waits recorded so far. -/
abbrev Ow (W : Waits sig (SparseCore.Cfg.HIx 1)) : sProp 𝕄 := owes (c : Thread nD τ) (0 : CellTallies nD τ sig (SparseCore.Cfg.HIx 1)) W

/-- The wait for the copy of block `b` from slot `p` puts the block back, written, and frees the slot. -/
theorem wp_await (hm : Fin 98 → Option Bool) (st : Fin 4 → Option (Fin 98)) (p : Fin 4) (b : Fin 98) (hp : st p = some b) (hh : hm b = none)
    (hb : (bufM p).IsWhole) (off : Fin 2 → ℕ) (h : ∀ a, off a + S1024x1024.size a ≤ S1024x100096.size a)
    (W : Waits sig (SparseCore.Cfg.HIx 1)) (k : PB F) (Q : PUnit → sProp 𝕄) :
    iprop(res c f0 fin hm st ∗ Ow c W)
      ⊢ iprop((iprop(res c f0 fin (Function.update hm b (some true)) (Function.update st p none) ∗ Ow c (insert (SemLoc.dma (semS p), none) W))
            -∗ wp frame (wpE (defs₀ (F := F)) 𝒱₀ c none) Set.univ k Q)
          -∗ wp frame (wpE (defs₀ (F := F)) 𝒱₀ c none) Set.univ (await oM (bufM p) hb (semS p) off h k) Q) := by
  have e1 : (bigSep Finset.univ fun b' => home c f0 fin (hm b') b' : sProp 𝕄) = bigSep Finset.univ fun b' => home c f0 fin (Function.update hm b (hm b) b') b' := by
    rw [Function.update_eq_self]
  have e2 : (bigSep Finset.univ fun p' => slotR c fin (st p') p' : sProp 𝕄) = bigSep Finset.univ fun p' => slotR c fin (Function.update st p (st p) p') p' := by
    rw [Function.update_eq_self]
  unfold res
  rw [e1, e2, homes_split, slots_split, homes_split, slots_split, hp, hh, slotR_some, slotR_none, home_none, home_written]
  unfold await
  iintro ⟨⟨⟨-, Hh⟩, ⟨Hf, Hs⟩⟩, HO⟩ Hk
  iapply (Transfers.wp_waitLocal countersEmb 𝒱₀ (c : Thread nD τ) none (none : SparseCore.Cfg.HIx 1) (N := NB) (rfl : (oAt oM off h).view.dmaCredit = NB)) $$ [Hf HO]
  · isplitl [Hf] <;> iassumption
  iintro ⟨⟨Hb, Hg⟩, Hv, HO⟩
  iapply Hk
  isplitr [HO]
  · isplitl [Hb Hh]
    · isplitl [Hb] <;> iassumption
    · isplitr [Hs]
      · isplitl [Hg] <;> iassumption
      · iexact Hs
  · iexact HO

/-- A tile stored over a whole buffer. -/
theorem wp_fillBuf (b : Memref sig .tc .vmem S1024x1024 .f32) (g : Buf (Elt F) (b.view.loc (c : Thread nD τ))) (w : FVec F S1024x1024 .f32)
    (k : PB F) (Q : PUnit → sProp 𝕄) :
    iprop(pt c b g)
      ⊢ iprop((iprop(∃ g', ⌜b.view.read (Elt F) g' = w⌝ ∗ pt c b g') -∗ wp frame (wpE (defs₀ (F := F)) 𝒱₀ c none) Set.univ k Q)
          -∗ wp frame (wpE (defs₀ (F := F)) 𝒱₀ c none) Set.univ (do
            let _v : Vec F S1024x1024 .f32 ← Prog.lift (.load b (Rect.unit (s := S1024x1024) ![0, 0] S1024x1024.size inb_S1024x1024_S1024x1024_0_0).toLoadRect (View.loadsAt_vmem h_S1024x1024))
            Prog.lift (.store b (Rect.unit (s := S1024x1024) ![0, 0] S1024x1024.size inb_S1024x1024_S1024x1024_0_0) w Finset.univ (View.stores_vmem_bits_univ h_S1024x1024 rfl) (.inl rfl))
            k) Q) := by
  iintro H Hk
  sl_exec
  iapply Hk
  iexists _
  isplitr
  swap
  · iexact H
  ipureintro
  exact View.read_writes_full _ _ _ _ _

/-- What the copy of a tile delivers: the block it is of, written, and the buffer back. -/
theorem deliver (p : Fin 4) (b : Fin 98) (hb97 : b.val < 97) (hb : (bufM p).IsWhole) (off : Fin 2 → ℕ)
    (h : ∀ a, off a + S1024x1024.size a ≤ S1024x100096.size a) (hoff : off = ![0, 1024 * b.val])
    (g : Buf (Elt F) ((bufM p).view.loc (c : Thread nD τ))) (hg : (bufM p).view.read (Elt F) g = tileOf fin b.val hb97) :
    iprop(((oAt oM off h).view.loc (c : Thread nD τ) ↦[blkSet b]{fullShare} ((oAt oM off h).view.write (Elt F) f0 ((bufM p).view.read (Elt F) g) Finset.univ))
        ∗ ((bufM p).view.loc (c : Thread nD τ) ↦[(bufM p).view.set]{fullShare} g) : sProp 𝕄)
      ⊢ iprop((oLoc c ↦[blkSet b]{fullShare} fin) ∗ ∃ g, pt c (bufM p) g) := by
  rw [hg, hb.set_eq_univ]
  have e : ((oAt oM off h).view.loc (c : Thread nD τ) ↦[blkSet b]{fullShare} ((oAt oM off h).view.write (Elt F) f0 (tileOf fin b.val hb97) Finset.univ) : sProp 𝕄)
      = (oLoc c ↦[blkSet b]{fullShare} fin) :=
    pointsTo_congr fun i hi => write_tile fin f0 b hb97 off h hoff i hi
  rw [e]
  iintro ⟨Hb, Hg⟩
  isplitl [Hb]; · iexact Hb
  iexists g
  iexact Hg

/-- The slot's tile stored and the copy of it to block `b` started. -/
theorem wp_issue (hm : Fin 98 → Option Bool) (st : Fin 4 → Option (Fin 98)) (p : Fin 4) (b : Fin 98) (hb97 : b.val < 97) (hp : st p = none) (hh : hm b = some false)
    (hb : (bufM p).IsWhole) (off : Fin 2 → ℕ) (h : ∀ a, off a + S1024x1024.size a ≤ S1024x100096.size a) (hoff : off = ![0, 1024 * b.val])
    (w : FVec F S1024x1024 .f32) (hw : w = tileOf fin b.val hb97) (k : PB F) (Q : PUnit → sProp 𝕄) :
    iprop(res c f0 fin hm st)
      ⊢ iprop((iprop(res c f0 fin (Function.update hm b none) (Function.update st p (some b)))
            -∗ wp frame (wpE (defs₀ (F := F)) 𝒱₀ c none) Set.univ k Q)
          -∗ wp frame (wpE (defs₀ (F := F)) 𝒱₀ c none) Set.univ (issue oM (bufM p) hb (semS p) off h w k) Q) := by
  have e1 : (bigSep Finset.univ fun b' => home c f0 fin (hm b') b' : sProp 𝕄) = bigSep Finset.univ fun b' => home c f0 fin (Function.update hm b (hm b) b') b' := by
    rw [Function.update_eq_self]
  have e2 : (bigSep Finset.univ fun p' => slotR c fin (st p') p' : sProp 𝕄) = bigSep Finset.univ fun p' => slotR c fin (Function.update st p (st p) p') p' := by
    rw [Function.update_eq_self]
  unfold res
  rw [e1, e2, homes_split, slots_split, homes_split, slots_split, hp, hh, slotR_some, slotR_none, home_none, home_found]
  unfold issue
  iintro ⟨⟨Hb, Hh⟩, ⟨⟨%g, Hg⟩, Hv⟩, Hs⟩ Hk
  iapply (wp_fillBuf c (bufM p) g w _ Q) $$ [Hg]
  · iexact Hg
  iintro ⟨%g', %hg', Hg⟩
  iapply (Transfers.wp_dmaLocal countersEmb 𝒱₀ (c : Thread nD τ) none (none : SparseCore.Cfg.HIx 1) NB (rfl : (oAt oM off h).view.amount (.dma (semS p)) = NB)
    (View.dmaCredit_pos _ (by decide)) (le_of_eq (set_oAt b off h hoff))) $$ [Hg Hb Hv]
  · isplitl [Hg]
    · iapply (Entails.of_eq (show pt c (bufM p) g' = _ from by rw [hb.set_eq_univ])) $$ Hg
    isplitl [Hb] <;> iassumption
  iintro Hf
  iapply Hk
  isplitl [Hh]
  · isplitr; · iempintro
    iexact Hh
  isplitr [Hs]
  · iapply (Transfers.Flight_mono countersEmb (c : Thread nD τ) (deliver c f0 fin p b hb97 hb off h hoff g' (hg'.trans hw))) $$ Hf
  · iexact Hs

end Cert.Proof.ILogits
-- ==== Proof.Ideal.LogitsStep.lean ====
/-
  One grid point of the logits kernel over its ring: the slot whose turn it is moves on by one block, the other slots
  rest, and the last point brings the four blocks still under way home.
-/
module

public import proofs.«01_k».proof.Proof.Ideal.LogitsRing

@[expose] public section

noncomputable section

namespace Cert.Proof.ILogits

open Cert.KernelIdeal Cert.KernelIdeal.Gen
open Cert.Proof.ISetup
open Cert.Proof.IHead (pt load_full owesDone)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-- Where block `b` is before point `t`: untouched until its own point, then under way for four points, then written. -/
def hmAt (t : ℕ) (b : Fin 98) : Option Bool := if t ≤ b.val then some false else if t ≤ b.val + 4 then none else some true

/-- The block on its way out of slot `p` before point `t`: the last one of its turn. -/
def stAt (t : ℕ) (p : Fin 4) : Option (Fin 98) := if p.val < t then some (Fin.ofNat 98 (t - 1 - (t - 1 - p.val) % 4)) else none

/-- The slot of point `t`. -/
def slotOf (t : Fin 97) : Fin 4 := ⟨t.val % 4, Nat.mod_lt _ (by decide)⟩

/-- At the first four points the buffer is free. -/
theorem stAt_self_early : ∀ t : Fin 97, t.val < 4 → stAt t.val (slotOf t) = none := by decide +kernel
/-- From point 4 on the buffer carries the copy of four points earlier. -/
theorem stAt_self_late : ∀ t : Fin 97, 4 ≤ t.val → stAt t.val (slotOf t) = some (Fin.ofNat 98 (t.val - 4)) := by decide +kernel
/-- Point `t` finds its own block as it was. -/
theorem hmAt_self (t : Fin 97) : hmAt t.val (t.castSucc) = some false := if_pos (le_refl _)
/-- From point 4 on, the block of four points earlier is in flight. -/
theorem hmAt_late : ∀ t : Fin 97, 4 ≤ t.val → hmAt t.val (Fin.ofNat 98 (t.val - 4)) = none := by decide +kernel

/-- The blocks after one of the first four points. -/
theorem hmAt_succ_early (t : Fin 97) (ht : t.val < 4) : Function.update (hmAt t.val) t.castSucc none = hmAt (t.val + 1) := by
  have h : ∀ t : Fin 97, t.val < 4 → ∀ b, Function.update (hmAt t.val) t.castSucc none b = hmAt (t.val + 1) b := by decide +kernel
  exact funext (h t ht)
/-- The blocks after a later point. -/
theorem hmAt_succ_late (t : Fin 97) (ht : 4 ≤ t.val) :
    Function.update (Function.update (hmAt t.val) (Fin.ofNat 98 (t.val - 4)) (some true)) t.castSucc none = hmAt (t.val + 1) := by
  have h : ∀ t : Fin 97, 4 ≤ t.val → ∀ b, Function.update (Function.update (hmAt t.val) (Fin.ofNat 98 (t.val - 4)) (some true)) t.castSucc none b = hmAt (t.val + 1) b := by
    decide +kernel
  exact funext (h t ht)
/-- Between the wait and the new copy, the point's own block is as it was found. -/
theorem hmAt_mid (t : Fin 97) (ht : 4 ≤ t.val) : Function.update (hmAt t.val) (Fin.ofNat 98 (t.val - 4)) (some true) t.castSucc = some false := by
  have h : ∀ t : Fin 97, 4 ≤ t.val → Function.update (hmAt t.val) (Fin.ofNat 98 (t.val - 4)) (some true) t.castSucc = some false := by decide +kernel
  exact h t ht
/-- The buffers after a point. -/
theorem stAt_succ (t : Fin 97) : Function.update (stAt t.val) (slotOf t) (some t.castSucc) = stAt (t.val + 1) := by
  have h : ∀ t : Fin 97, ∀ p, Function.update (stAt t.val) (slotOf t) (some t.castSucc) p = stAt (t.val + 1) p := by decide +kernel
  exact funext (h t)

variable (c : Dev nD) (f0 fin : S1024x100096.Idx → F .f32)

/-- The ring and the thread's record before point `t`. -/
def At (t : ℕ) : sProp 𝕄 := iprop(res c f0 fin (hmAt t) (stAt t) ∗ owesDone c)

/-- The ring within point `t`, before slot `p`'s part. -/
def Mid (t : Fin 97) (p : ℕ) : sProp 𝕄 := if t.val % 4 < p then At c f0 fin (t.val + 1) else At c f0 fin t.val

/-- A wait on one of the ring's semaphores keeps the record within the levels allowed. -/
theorem below_insert {W : Waits sig (SparseCore.Cfg.HIx 1)} (s : DmaSem sig) (hW : (K (F := F)).WBelow (SparseCore.T c) W 8) :
    (K (F := F)).WBelow (SparseCore.T c) (insert (SemLoc.dma s, none) W) 8 := by
  intro p hp
  rcases Finset.mem_insert.mp hp with rfl | hp
  · exact Nat.zero_le _
  · exact hW p hp

/-- One slot's part of a point: the slot whose turn it is moves on, the others do nothing. -/
theorem wp_slot (t : Fin 97) (p : Fin 4) (hb : (bufM p).IsWhole) (c1 c2 : BitVec 1) (offW offS : Fin 2 → ℕ)
    (hW : c1 = 1#1 → c2 = 1#1 → ∀ a, offW a + S1024x1024.size a ≤ S1024x100096.size a)
    (hS : c1 = 1#1 → ∀ a, offS a + S1024x1024.size a ≤ S1024x100096.size a)
    (h1 : c1 = 1#1 ↔ t.val % 4 = p.val) (h2 : c2 = 1#1 ↔ 4 ≤ t.val) (hoS : offS = ![0, 1024 * t.val])
    (w : FVec F S1024x1024 .f32) (hw : w = tileOf fin t.val t.isLt) (k : PB F) (Q : PUnit → sProp 𝕄) :
    (Mid c f0 fin t p.val)
      ⊢ iprop((Mid c f0 fin t (p.val + 1) -∗ wp frame (wpE (defs₀ (F := F)) 𝒱₀ c none) Set.univ k Q)
          -∗ wp frame (wpE (defs₀ (F := F)) 𝒱₀ c none) Set.univ (slotStep oM (bufM p) hb (semS p) c1 c2 offW offS hW hS w k) Q) := by
  unfold slotStep Mid
  by_cases hp : t.val % 4 = p.val
  · have hp' : slotOf t = p := Fin.ext hp
    rw [dif_pos (h1.mpr hp), if_neg (by omega), if_pos (by omega)]
    unfold At
    by_cases ht : 4 ≤ t.val
    · rw [dif_pos (h2.mpr ht)]
      iintro ⟨HR, ⟨%W, %hWb, HO⟩⟩ Hk
      iapply (wp_await c f0 fin (hmAt t.val) (stAt t.val) p _ (hp' ▸ stAt_self_late t ht) (hmAt_late t ht) hb offW _ W _ Q) $$ [HR HO]
      · isplitl [HR] <;> iassumption
      iintro ⟨HR, HO⟩
      iapply (wp_issue c f0 fin _ _ p t.castSucc t.isLt (Function.update_self _ _ _) (hmAt_mid t ht) hb offS _ hoS w hw k Q) $$ [HR]
      · iexact HR
      rw [hmAt_succ_late t ht, Function.update_idem, ← hp', stAt_succ t]
      iintro HR
      iapply Hk
      isplitl [HR]; · iexact HR
      iexists _
      isplitr; swap; · iexact HO
      ipureintro
      exact below_insert c _ hWb
    · rw [dif_neg (fun h => ht (h2.mp h))]
      iintro ⟨HR, HO⟩ Hk
      iapply (wp_issue c f0 fin (hmAt t.val) (stAt t.val) p t.castSucc t.isLt (hp' ▸ stAt_self_early t (by omega)) (hmAt_self t) hb offS _ hoS w hw k Q) $$ [HR]
      · iexact HR
      rw [hmAt_succ_early t (by omega), ← hp', stAt_succ t]
      iintro HR
      iapply Hk
      isplitl [HR] <;> iassumption
  · rw [dif_neg (fun h => hp (h1.mp h))]
    rw [show (if t.val % 4 < p.val + 1 then At c f0 fin (t.val + 1) else At c f0 fin t.val : sProp 𝕄)
      = (if t.val % 4 < p.val then At c f0 fin (t.val + 1) else At c f0 fin t.val) from by
        by_cases hl : t.val % 4 < p.val
        · rw [if_pos hl, if_pos (by omega)]
        · rw [if_neg hl, if_neg (by omega)]]
    iintro H Hk
    iapply Hk
    iexact H

/-- The ring once the last point has brought everything home. -/
def Done : sProp 𝕄 := iprop(res c f0 fin (fun b => if b.val < 97 then some true else some false) (fun _ => none) ∗ owesDone c)

/-- The drain. -/
theorem wp_drain (hb0 : (bufM 0).IsWhole) (hb1 : (bufM 1).IsWhole) (hb2 : (bufM 2).IsWhole) (hb3 : (bufM 3).IsWhole) (Q : PUnit → sProp 𝕄) :
    At c f0 fin 97
      ⊢ iprop((Done c f0 fin -∗ Q ⟨⟩)
          -∗ wp frame (wpE (defs₀ (F := F)) 𝒱₀ c none) Set.univ
            (await oM (bufM 0) hb0 (semS 0) ![0, 98304] inb_S1024x100096_S1024x1024_0_98304
              (await oM (bufM 3) hb3 (semS 3) ![0, 97280] inb_S1024x100096_S1024x1024_0_97280
                (await oM (bufM 2) hb2 (semS 2) ![0, 96256] inb_S1024x100096_S1024x1024_0_96256
                  (await oM (bufM 1) hb1 (semS 1) ![0, 95232] inb_S1024x100096_S1024x1024_0_95232 (pure ⟨⟩))))) Q) := by
  unfold At Done
  iintro ⟨HR, ⟨%W, %hWb, HO⟩⟩ Hk
  iapply (wp_await c f0 fin (hmAt 97) (stAt 97) 0 96 (by decide +kernel) (by decide +kernel) hb0 _ _ _ _ Q) $$ [HR HO]
  · isplitl [HR] <;> iassumption
  iintro ⟨HR, HO⟩
  iapply (wp_await c f0 fin (Function.update (hmAt 97) 96 (some true)) (Function.update (stAt 97) 0 none) 3 95 (by decide +kernel) (by decide +kernel) hb3 _ _ _ _ Q) $$ [HR HO]
  · isplitl [HR] <;> iassumption
  iintro ⟨HR, HO⟩
  iapply (wp_await c f0 fin (Function.update (Function.update (hmAt 97) 96 (some true)) 95 (some true)) (Function.update (Function.update (stAt 97) 0 none) 3 none) 2 94 (by decide +kernel) (by decide +kernel) hb2 _ _ _ _ Q) $$ [HR HO]
  · isplitl [HR] <;> iassumption
  iintro ⟨HR, HO⟩
  iapply (wp_await c f0 fin (Function.update (Function.update (Function.update (hmAt 97) 96 (some true)) 95 (some true)) 94 (some true)) (Function.update (Function.update (Function.update (stAt 97) 0 none) 3 none) 2 none) 1 93 (by decide +kernel) (by decide +kernel) hb1 _ _ _ _ Q) $$ [HR HO]
  · isplitl [HR] <;> iassumption
  have eh : Function.update (Function.update (Function.update (Function.update (hmAt 97) 96 (some true)) 95 (some true)) 94 (some true)) 93 (some true)
      = fun b : Fin 98 => if b.val < 97 then some true else some false := by
    have h : ∀ b : Fin 98, Function.update (Function.update (Function.update (Function.update (hmAt 97) 96 (some true)) 95 (some true)) 94 (some true)) 93 (some true) b
      = if b.val < 97 then some true else some false := by decide +kernel
    exact funext h
  have es : Function.update (Function.update (Function.update (Function.update (stAt 97) 0 none) 3 none) 2 none) 1 none = fun _ : Fin 4 => (none : Option (Fin 98)) := by
    have h : ∀ p, Function.update (Function.update (Function.update (Function.update (stAt 97) 0 none) 3 none) 2 none) 1 none p = none := by decide +kernel
    exact funext h
  rw [eh, es]
  iintro ⟨HR, HO⟩
  sl_step
  iapply Hk
  isplitl [HR]; · iexact HR
  iexists _
  isplitr; swap; · iexact HO
  ipureintro
  exact below_insert c _ (below_insert c _ (below_insert c _ (below_insert c _ hWb)))

end Cert.Proof.ILogits
-- ==== Proof.Ideal.LogitsBody.lean ====
/-
  The logits kernel's body at one grid point: its three loads, the tile, its slot's move, and at the last point the drain.
-/
module

public import proofs.«01_k».proof.Proof.Ideal.LogitsStep

@[expose] public section

noncomputable section

namespace Cert.Proof.ILogits

open Cert.KernelIdeal Cert.KernelIdeal.Gen
open Cert.Proof.ISetup
open Cert.Proof.IHead (pt load_full owesDone)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (c : Dev nD) (f0 fin : S1024x100096.Idx → F .f32)

/-- A load of all of an owned buffer gives its contents. -/
theorem wp_ld {n0 n1 : ℕ} (a : Memref sig .tc .vmem (⟨2, ![n0, n1]⟩ : Shape) .f32) (ha : a.IsWhole) (X : (⟨2, ![n0, n1]⟩ : Shape).Idx → F .f32)
    (inb : ∀ x, (![0, 0] : Fin 2 → ℕ) x + (⟨2, ![n0, n1]⟩ : Shape).size x ≤ (⟨2, ![n0, n1]⟩ : Shape).size x)
    (hl : a.view.LoadsAt (Rect.unit (s := (⟨2, ![n0, n1]⟩ : Shape)) ![0, 0] (⟨2, ![n0, n1]⟩ : Shape).size inb).toLoadRect)
    (k : Vec F (⟨2, ![n0, n1]⟩ : Shape) .f32 → PB F) (Q : PUnit → sProp 𝕄) :
    (owns (c : Thread nD τ) a fullShare X : sProp 𝕄)
      ⊢ iprop((owns (c : Thread nD τ) a fullShare X -∗ wp frame (wpE (defs₀ (F := F)) 𝒱₀ c none) Set.univ (k X) Q)
          -∗ wp frame (wpE (defs₀ (F := F)) 𝒱₀ c none) Set.univ
            (Prog.lift (.load a (Rect.unit (s := (⟨2, ![n0, n1]⟩ : Shape)) ![0, 0] (⟨2, ![n0, n1]⟩ : Shape).size inb).toLoadRect hl) >>= k) Q) := by
  unfold owns
  rw [ha.set_eq_univ]
  iintro ⟨%f, %hf, H⟩ Hk
  sl_exec
  unfold wp_ld.sl.v
  rw [load_full, hf]
  iapply Hk
  iexists f
  isplitr; · ipureintro; exact hf
  iexact H

/-! ### The body's conditions and offsets over the grid -/

/-- Buffer 0 is taken at the points that leave remainder 0. -/
theorem cond1_iff : ∀ t : Fin 97, k2_cond1 (grid2.coords t) = 1#1 ↔ t.val % 4 = 0 := by decide +kernel
/-- Buffer 0 has an earlier copy from point 4 on. -/
theorem cond2_iff : ∀ t : Fin 97, k2_cond2 (grid2.coords t) = 1#1 ↔ 4 ≤ t.val := by decide +kernel
/-- Buffer 1 is taken at the points that leave remainder 1. -/
theorem cond3_iff : ∀ t : Fin 97, k2_cond3 (grid2.coords t) = 1#1 ↔ t.val % 4 = 1 := by decide +kernel
/-- Buffer 1 has an earlier copy from point 4 on. -/
theorem cond4_iff : ∀ t : Fin 97, k2_cond4 (grid2.coords t) = 1#1 ↔ 4 ≤ t.val := by decide +kernel
/-- Buffer 2 is taken at the points that leave remainder 2. -/
theorem cond5_iff : ∀ t : Fin 97, k2_cond5 (grid2.coords t) = 1#1 ↔ t.val % 4 = 2 := by decide +kernel
/-- Buffer 2 has an earlier copy from point 4 on. -/
theorem cond6_iff : ∀ t : Fin 97, k2_cond6 (grid2.coords t) = 1#1 ↔ 4 ≤ t.val := by decide +kernel
/-- Buffer 3 is taken at the points that leave remainder 3. -/
theorem cond7_iff : ∀ t : Fin 97, k2_cond7 (grid2.coords t) = 1#1 ↔ t.val % 4 = 3 := by decide +kernel
/-- Buffer 3 has an earlier copy from point 4 on. -/
theorem cond8_iff : ∀ t : Fin 97, k2_cond8 (grid2.coords t) = 1#1 ↔ 4 ≤ t.val := by decide +kernel
/-- Buffer 0's copy goes to the columns of tile `t`. -/
theorem off2_eq : ∀ t : Fin 97, k2_off2 (grid2.coords t) = ![0, 1024 * t.val] := by decide +kernel
/-- Buffer 1's copy goes to the columns of tile `t`. -/
theorem off4_eq : ∀ t : Fin 97, k2_off4 (grid2.coords t) = ![0, 1024 * t.val] := by decide +kernel
/-- Buffer 2's copy goes to the columns of tile `t`. -/
theorem off6_eq : ∀ t : Fin 97, k2_off6 (grid2.coords t) = ![0, 1024 * t.val] := by decide +kernel
/-- Buffer 3's copy goes to the columns of tile `t`. -/
theorem off8_eq : ∀ t : Fin 97, k2_off8 (grid2.coords t) = ![0, 1024 * t.val] := by decide +kernel
/-- The last waits happen at point 96. -/
theorem cLast_iff : ∀ t : Fin 97, cLast (grid2.coords t) = 1#1 ↔ t.val = 96 := by decide +kernel

/-- The ring after point `t`: moved on, or after the last point drained. -/
def After (t : Fin 97) : sProp 𝕄 := if t.val = 96 then Done c f0 fin else At c f0 fin (t.val + 1)

/-- The body at a grid point, from its windows and the ring to the ring one point on. -/
theorem wp_point (t : Fin 97) (a1 : Memref sig .tc .vmem S1024x256 .f32) (g1 : a1.IsWhole) (a2 : Memref sig .tc .vmem S256x1024 .f32) (g2 : a2.IsWhole)
    (a3 : Memref sig .tc .vmem S1x1024 .f32) (g3 : a3.IsWhole) (hb0 : (bufM 0).IsWhole) (hb1 : (bufM 1).IsWhole) (hb2 : (bufM 2).IsWhole) (hb3 : (bufM 3).IsWhole)
    (X1 : S1024x256.Idx → F .f32) (X2 : S256x1024.Idx → F .f32) (X3 : S1x1024.Idx → F .f32) (hX : k2_pay2 X1 X2 X3 = tileOf fin t.val t.isLt)
    (Q : PUnit → sProp 𝕄) :
    iprop(At c f0 fin t.val ∗ owns (c : Thread nD τ) a1 fullShare X1 ∗ owns (c : Thread nD τ) a2 fullShare X2 ∗ owns (c : Thread nD τ) a3 fullShare X3 : sProp 𝕄)
      ⊢ iprop((iprop(After c f0 fin t ∗ owns (c : Thread nD τ) a1 fullShare X1 ∗ owns (c : Thread nD τ) a2 fullShare X2 ∗ owns (c : Thread nD τ) a3 fullShare X3) -∗ Q ⟨⟩)
          -∗ wp frame (wpE (defs₀ (F := F)) 𝒱₀ c none) Set.univ
            (prog (grid2.coords t) a1 a2 a3 oM (bufM 0) hb0 (bufM 1) hb1 (bufM 2) hb2 (bufM 3) hb3 (semS 0) (semS 1) (semS 2) (semS 3)) Q) := by
  have e0 : (At c f0 fin t.val : sProp 𝕄) = Mid c f0 fin t (0 : Fin 4).val := (if_neg (Nat.not_lt_zero _)).symm
  have e4 : (Mid c f0 fin t ((3 : Fin 4).val + 1) : sProp 𝕄) = At c f0 fin (t.val + 1) := if_pos (Nat.mod_lt _ (by decide))
  rw [e0]
  unfold prog
  iintro ⟨HA, H1, H2, H3⟩ Hk
  iapply (wp_ld c a1 g1 X1 _ _ _ Q) $$ [H1]
  · iexact H1
  iintro H1
  iapply (wp_ld c a2 g2 X2 _ _ _ Q) $$ [H2]
  · iexact H2
  iintro H2
  iapply (wp_ld c a3 g3 X3 _ _ _ Q) $$ [H3]
  · iexact H3
  iintro H3
  iapply (wp_slot c f0 fin t 0 hb0 _ _ _ _ _ _ (cond1_iff t) (cond2_iff t) (off2_eq t) _ hX _ Q) $$ [HA]
  · iexact HA
  iintro HA
  iapply (wp_slot c f0 fin t 1 hb1 _ _ _ _ _ _ (cond3_iff t) (cond4_iff t) (off4_eq t) _ hX _ Q) $$ [HA]
  · iexact HA
  iintro HA
  iapply (wp_slot c f0 fin t 2 hb2 _ _ _ _ _ _ (cond5_iff t) (cond6_iff t) (off6_eq t) _ hX _ Q) $$ [HA]
  · iexact HA
  iintro HA
  iapply (wp_slot c f0 fin t 3 hb3 _ _ _ _ _ _ (cond7_iff t) (cond8_iff t) (off8_eq t) _ hX _ Q) $$ [HA]
  · iexact HA
  rw [e4]
  unfold After
  iintro HA
  by_cases ht : t.val = 96
  · rw [if_pos ((cLast_iff t).mpr ht), if_pos ht, ht]
    iapply (wp_drain c f0 fin hb0 hb1 hb2 hb3 Q) $$ [HA]
    · iexact HA
    iintro HA
    iapply Hk
    isplitl [HA]; · iexact HA
    isplitl [H1]; · iexact H1
    isplitl [H2] <;> iassumption
  · rw [if_neg (fun h => ht ((cLast_iff t).mp h)), if_neg ht]
    sl_step
    iapply Hk
    isplitl [HA]; · iexact HA
    isplitl [H1]; · iexact H1
    isplitl [H2] <;> iassumption

end Cert.Proof.ILogits
-- ==== Proof.Ideal.Logits.lean ====
/-
  The logits' pipelined call as a region of @main: its three input windows, the ring in its invariant, the array of the
  logits written by the kernel's own copies.
-/
module

public import proofs.«01_k».proof.Proof.Ideal.LogitsBody

@[expose] public section

noncomputable section

namespace Cert.Proof.ILogits

open Cert.KernelIdeal Cert.KernelIdeal.Gen
open Cert.Proof.ISetup
open Cert.Proof.IHead (pt load_full owesDone junkDat below)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

/-! ## The logits -/

/-- Columns `1024 t` on of the weights. -/
def waBlk (wa : S256x100000.Idx → F .f32) (t : ℕ) (ht : t < 97) : S256x1024.Idx → F .f32 := fun j =>
  wa (ix2 (j 0 : Fin 256) (⟨1024 * t + (j 1).val, by have : (j 1).val < 1024 := (j 1).isLt; omega⟩ : Fin 100000))

/-- And of the bias. -/
def baBlk (ba : S1x100000.Idx → F .f32) (t : ℕ) (ht : t < 97) : S1x1024.Idx → F .f32 := fun j =>
  ba (ix2 (j 0 : Fin 1) (⟨1024 * t + (j 1).val, by have : (j 1).val < 1024 := (j 1).isLt; omega⟩ : Fin 100000))

/-- The logits' array: in column `n < 99328` the tile `n / 1024`'s element, in the last columns what `f0` has there. -/
def logitsF (h : S1024x256.Idx → F .f32) (wa : S256x100000.Idx → F .f32) (ba : S1x100000.Idx → F .f32) (f0 : S1024x100096.Idx → F .f32) :
    S1024x100096.Idx → F .f32 := fun i =>
  if hi : (i 1).val / 1024 < 97 then
    k2_pay2 h (waBlk wa _ hi) (baBlk ba _ hi) (ix2 (i 0 : Fin 1024) (⟨(i 1).val % 1024, Nat.mod_lt _ (by decide)⟩ : Fin 1024))
  else f0 i

/-- Tile `t` of the logits' array is what the body computes at grid point `t`. -/
theorem tileOf_logitsF (h : S1024x256.Idx → F .f32) (wa : S256x100000.Idx → F .f32) (ba : S1x100000.Idx → F .f32) (f0 : S1024x100096.Idx → F .f32)
    (t : ℕ) (ht : t < 97) : k2_pay2 h (waBlk wa t ht) (baBlk ba t ht) = tileOf (logitsF h wa ba f0) t ht := by
  funext x
  have hx : (x 1).val < 1024 := (x 1).isLt
  have hd : (1024 * t + (x 1).val) / 1024 = t := by omega
  have hm : (1024 * t + (x 1).val) % 1024 = (x 1).val := by omega
  unfold tileOf logitsF
  show _ = if hi : (1024 * t + (x 1).val) / 1024 < 97 then _ else _
  rw [dif_pos (by omega)]
  have key : ∀ (u : ℕ) (hu : u < 97) (j : S1024x1024.Idx), u = t → j = x → k2_pay2 h (waBlk wa t ht) (baBlk ba t ht) x = k2_pay2 h (waBlk wa u hu) (baBlk ba u hu) j := by
    rintro u hu j rfl rfl; rfl
  refine key _ _ _ hd ?_
  funext a
  apply Fin.ext
  match a with
  | 0 => rfl
  | 1 => exact hm

/-! ## The array's blocks together -/

/-- Different column blocks do not meet. -/
theorem blkSet_disjoint : ∀ b ∈ (Finset.univ : Finset (Fin 98)), ∀ b' ∈ (Finset.univ : Finset (Fin 98)), b ≠ b' → Disjoint (blkSet b) (blkSet b') := by
  intro b _ b' _ hne
  refine Finset.disjoint_left.mpr fun i hi hi' => hne (Fin.ext ?_)
  exact ((Finset.mem_filter.mp hi).2.symm.trans (Finset.mem_filter.mp hi').2)

/-- The column blocks make up the array. -/
theorem blkSet_cover : (Finset.univ : Finset (Fin 98)).biUnion blkSet = Finset.univ := by
  ext i
  have h1 : (i 1).val < 100096 := (i 1).isLt
  refine ⟨fun _ => Finset.mem_univ _, fun _ => Finset.mem_biUnion.mpr ⟨⟨(i 1).val / 1024, by omega⟩, Finset.mem_univ _, ?_⟩⟩
  exact Finset.mem_filter.mpr ⟨Finset.mem_univ _, rfl⟩

section
variable (c : Dev nD) (f0 fin : S1024x100096.Idx → F .f32)

omit [FloatOps F] in
/-- The array at any contents, by blocks. -/
theorem blocks_eq (g : S1024x100096.Idx → F .f32) :
    (oLoc c ↦{fullShare} g : sProp 𝕄) = bigSep Finset.univ fun b : Fin 98 => oLoc c ↦[blkSet b]{fullShare} g := by
  rw [← pointsTo_biUnion Finset.univ (ℓ := oLoc c) blkSet blkSet_disjoint, blkSet_cover]

omit [FloatOps F] in
/-- Before the first point every block is as found. -/
theorem homes_start : (bigSep Finset.univ fun b => home c f0 fin (hmAt 0 b) b : sProp 𝕄) = (oLoc c ↦{fullShare} f0) := by
  rw [blocks_eq]
  exact bigSep_congr fun b _ => by rw [show hmAt 0 b = some false from if_pos (Nat.zero_le _)]; rfl

omit [FloatOps F] in
/-- Once all is done every block is written, the one no copy fills being as found. -/
theorem homes_end (hf : ∀ i, ¬ (i 1).val / 1024 < 97 → fin i = f0 i) :
    (bigSep Finset.univ fun b : Fin 98 => home c f0 fin (if b.val < 97 then some true else some false) b : sProp 𝕄) = (oLoc c ↦{fullShare} fin) := by
  rw [blocks_eq]
  refine bigSep_congr fun b _ => ?_
  by_cases hb : b.val < 97
  · rw [if_pos hb]; rfl
  · rw [if_neg hb, home_found]
    exact pointsTo_congr fun i hi => (hf i (by rw [(Finset.mem_filter.mp hi).2]; exact hb)).symm

omit [FloatOps F] in
/-- When no buffer is in flight, all four are free. -/
theorem slots_rest (st : Fin 4 → Option (Fin 98)) (h : ∀ p, st p = none) :
    (bigSep Finset.univ fun p => slotR c fin (st p) p : sProp 𝕄)
      = iprop((bigSep Finset.univ fun p => iprop(∃ g, pt c (bufM p) g)) ∗ bigSep Finset.univ fun p => semVal ((c : Thread nD τ), .dma (semS p)) 0) := by
  rw [show (bigSep Finset.univ fun p => slotR c fin (st p) p : sProp 𝕄)
    = bigSep Finset.univ fun p => iprop((∃ g, pt c (bufM p) g) ∗ semVal ((c : Thread nD τ), .dma (semS p)) 0) from
      bigSep_congr fun p _ => by rw [h p]; rfl]
  exact bigSep_sep' _ _ _

end

/-! ## The proof data, at an entry valuation -/

variable (V : (c : Dev nD) → (b : Ref sig .tc) → Buf (Elt F) ((c : Thread nD τ).loc b))

/-- The logits the region leaves. -/
def lg (c : Dev nD) : S1024x100096.Idx → F .f32 := logitsF (V c main_v4_0) (V c main_arg8) (V c main_v5) (V c main_v6)

/-- The staging buffers of the other region. -/
def Ten (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f))

omit [FloatOps F] in
/-- Separate parts regroup. -/
theorem sep_assoc_eq' (P Q R : sProp 𝕄) : iprop((P ∗ Q) ∗ R) = iprop(P ∗ Q ∗ R) := equiv_iff.mp ⟨BI.sep_assoc, BI.sep_assoc'⟩

/-- The scoped buffers no window of this region stages: the other region's and the ring's. -/
theorem scopedRest2_split (c : Dev nD) :
    (Pipeline.scopedRest (Ix := SparseCore.Cfg.HIx 1) (Name := ℕ) (U := UU) (Lvl := ℕ) (Val := Elt F) spec2 c : sProp 𝕄)
      = iprop(Ten c ∗ bigSep Finset.univ fun p : Fin 4 => iprop(∃ g, pt c (bufM p) g)) := by
  rw [scopedRest2_eq, bigSep_univ_eq_bigSepL [(0 : Fin 4), (1 : Fin 4), (2 : Fin 4), (3 : Fin 4)] (by decide) (by decide)]
  unfold Ten
  iterate 9 rw [sep_assoc_eq']
  rfl

/-- The ring before point `t`, after the last point at rest with everything written. -/
def Ring (c : Dev nD) (t : ℕ) : sProp 𝕄 :=
  if t = 97 then res c (V c main_v6) (lg V c) (fun b => if b.val < 97 then some true else some false) (fun _ => none)
  else res c (V c main_v6) (lg V c) (hmAt t) (stAt t)

/-- The proof data of the logits' region entered at `V`. -/
def dat2 (c : Dev nD) : Dat τ (Elt F) (SparseCore.Cfg.HIx 1) ℕ UU ℕ cfg2 c where
  A w := V c (Pipeline.arrRef spec2 w)
  after w t := match w with
    | ⟨0, _⟩ => V c main_v4_0
    | ⟨1, _⟩ => waBlk (V c main_arg8) t.val t.isLt
    | ⟨2, _⟩ => baBlk (V c main_v5) t.val t.isLt
  Φ t := iprop(Ten c ∗ Ring V c t.val)
  q _ := fullShare
  owed _ := 0
  recorded _ := below (F := F) c

/-- No block of the weights overhangs. -/
theorem clip1 : ∀ t : Fin 97, ∀ a, win2_1.clip (grid2.coords t) a = none := by decide +kernel
/-- No block of the bias overhangs. -/
theorem clip2 : ∀ t : Fin 97, ∀ a, win2_2.clip (grid2.coords t) a = none := by decide +kernel
/-- Point `t` takes block `t` of the weights. -/
theorem index1 : ∀ t : Fin 97, win2_1.index t 0 = 0 ∧ win2_1.index t 1 = t.val := by decide +kernel
/-- Point `t` takes block `t` of the bias. -/
theorem index2 : ∀ t : Fin 97, win2_2.index t 0 = 0 ∧ win2_2.index t 1 = t.val := by decide +kernel

/-- The weights' block as the region cuts it. -/
theorem keep1 (c : Dev nD) (t : Fin 97) : win2_1.cut (grid2.coords t) (waBlk (V c main_arg8) t.val t.isLt) = (dat2 V c).blockOf 1 t := by
  obtain ⟨h0, h1⟩ := index1 t
  funext j
  show V c main_arg8 _ = V c main_arg8 _
  congr 1
  funext a
  apply Fin.ext
  match a with
  | 0 => show (j 0).val = win2_1.index t 0 * 256 + 1 * (j 0).val; rw [h0]; omega
  | 1 => show 1024 * t.val + (j 1).val = win2_1.index t 1 * 1024 + 1 * (j 1).val; rw [h1]; omega

/-- The bias's block as the region cuts it. -/
theorem keep2 (c : Dev nD) (t : Fin 97) : win2_2.cut (grid2.coords t) (baBlk (V c main_v5) t.val t.isLt) = (dat2 V c).blockOf 2 t := by
  obtain ⟨h0, h1⟩ := index2 t
  funext j
  show V c main_v5 _ = V c main_v5 _
  congr 1
  funext a
  apply Fin.ext
  match a with
  | 0 => show (j 0).val = win2_2.index t 0 * 1 + 1 * (j 0).val; rw [h0]; omega
  | 1 => show 1024 * t.val + (j 1).val = win2_2.index t 1 * 1024 + 1 * (j 1).val; rw [h1]; omega

/-- Before point `t` the window of the weights holds block `t`. -/
theorem before2_1 (c : Dev nD) (t : Fin cfg2.N) (d : (cfg2.win 1).block.Idx → Elt F (cfg2.win 1).elt) : (dat2 V c).before 1 t d = waBlk (V c main_arg8) t.val t.isLt := by
  refine ((dat2 V c).before_in_eq_fetched 1 rfl (fun _ => rfl) (fun t t' _ => funext fun a => (clip1 t a).trans (clip1 t' a).symm) (keep1 V c) t d).trans ?_
  unfold Dat.fetched
  rw [← keep1 V c t]
  exact (Pipeline.fill_of_clip_none (cfg := cfg2) 1 _ (clip1 t) _ _ _).trans (win2_1.fill_cut _ _)

/-- Before point `t` the window of the bias holds block `t`. -/
theorem before2_2 (c : Dev nD) (t : Fin cfg2.N) (d : (cfg2.win 2).block.Idx → Elt F (cfg2.win 2).elt) : (dat2 V c).before 2 t d = baBlk (V c main_v5) t.val t.isLt := by
  refine ((dat2 V c).before_in_eq_fetched 2 rfl (fun _ => rfl) (fun t t' _ => funext fun a => (clip2 t a).trans (clip2 t' a).symm) (keep2 V c) t d).trans ?_
  unfold Dat.fetched
  rw [← keep2 V c t]
  exact (Pipeline.fill_of_clip_none (cfg := cfg2) 2 _ (clip2 t) _ _ _).trans (win2_2.fill_cut _ _)

/-- Every point takes the whole hidden layer. -/
theorem index0 : ∀ t : Fin 97, win2_0.index t 0 = 0 ∧ win2_0.index t 1 = 0 := by decide +kernel

/-- The hidden layer's block is the whole array. -/
theorem keep0 (c : Dev nD) (t : Fin 97) : win2_0.cut (grid2.coords t) (V c main_v4_0) = (dat2 V c).blockOf 0 t := by
  obtain ⟨h0, h1⟩ := index0 t
  funext j
  show V c main_v4_0 _ = V c main_v4_0 _
  congr 1
  funext a
  apply Fin.ext
  match a with
  | 0 => show (j 0).val = win2_0.index t 0 * 1024 + 1 * (j 0).val; rw [h0]; omega
  | 1 => show (j 1).val = win2_0.index t 1 * 256 + 1 * (j 1).val; rw [h1]; omega

/-- Before every point the window of the hidden layer holds it whole. -/
theorem before2_0 (c : Dev nD) (t : Fin cfg2.N) (d : (cfg2.win 0).block.Idx → Elt F (cfg2.win 0).elt) : (dat2 V c).before 0 t d = V c main_v4_0 := by
  refine ((dat2 V c).before_in_eq_fetched 0 rfl (fun _ => rfl) (fun t t' _ => rfl) (keep0 V c) t d).trans ?_
  unfold Dat.fetched
  rw [← keep0 V c t]
  exact (Pipeline.fill_of_clip_none (cfg := cfg2) 0 _ (fun _ => rfl) _ _ _).trans (win2_0.fill_cut _ _)

end Cert.Proof.ILogits
-- ==== Proof.Ideal.LogitsRegion.lean ====
/-
  The logits' region: its body's obligation at every grid point, and its entry and exit over @main's arrays.
-/
module

public import proofs.«01_k».proof.Proof.Ideal.Logits

@[expose] public section

noncomputable section

namespace Cert.Proof.ILogits

open Cert.KernelIdeal Cert.KernelIdeal.Gen
open Cert.Proof.ISetup
open Cert.Proof.IHead (pt load_full owesDone junkDat below)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MM F

variable (V : (c : Dev nD) → (b : Ref sig .tc) → Buf (Elt F) ((c : Thread nD τ).loc b))

/-- The record the region's data keep is the one @main's thread keeps between its steps. -/
theorem done_of_owesAt (c : Dev nD) (t : Fin (cfg2.N + 1)) : (dat2 V c).owesAt none t ⊢ owesDone (F := F) c := by
  unfold Dat.owesAt Pipeline.owesWithin
  iintro ⟨%W, %hW, HO⟩; iexists W; isplitr
  · ipureintro
    intro p hp
    rcases hW hp with h | ⟨w, s, rfl⟩
    · exact h
    · exact Nat.zero_le _
  · iexact HO

/-- The thread's debts at a grid point, when nothing is owed. -/
theorem owesAt_of_done (c : Dev nD) (t : Fin (cfg2.N + 1)) : owesDone (F := F) c ⊢ (dat2 V c).owesAt none t := by
  unfold Dat.owesAt Pipeline.owesWithin
  iintro ⟨%W, %hW, HO⟩; iexists W; isplitr; · ipureintro; exact fun p hp => Or.inl (hW p hp)
  iexact HO

/-- The ring and the record before a point. -/
theorem at_ring (c : Dev nD) (t : Fin 97) : iprop(Ring V c t.val ∗ owesDone c : sProp 𝕄) = At c (V c main_v6) (lg V c) t.val := by
  unfold Ring At
  rw [if_neg (by have := t.isLt; omega)]

/-- And after it. -/
theorem after_ring (c : Dev nD) (t : Fin 97) : After c (V c main_v6) (lg V c) t = iprop(Ring V c (t.val + 1) ∗ owesDone c : sProp 𝕄) := by
  unfold After Ring
  by_cases ht : t.val = 96
  · rw [if_pos ht, if_pos (by omega)]; rfl
  · rw [if_neg ht, if_neg (by omega)]; rfl

/-- The body at every point: from the point's blocks of the inputs and the ring before it, the ring after it. -/
theorem body2 (c : Dev nD) : BodyObligation (dat2 V c) (defs₀ (F := F)) 𝒱₀ none Set.univ := fun t => by
  rw [bigSep_W2, bigSep_W2]
  rw [show (dat2 V c).Φ t.castSucc = iprop(Ten c ∗ Ring V c t.val) from rfl, show (dat2 V c).Φ t.succ = iprop(Ten c ∗ Ring V c (t.val + 1)) from rfl]
  have hbody : defs₀ (F := F) .tc cfg2.body (cfg2.bodyArgs t (cfg2.slots t)) = bodyAt2 t := rfl
  rw [hbody]
  unfold bodyAt2
  rw [body_eq]
  iintro ⟨⟨HT, HR⟩, Howes, ⟨%d0, H0⟩, ⟨%d1, H1⟩, ⟨%d2, H2⟩⟩
  rw [before2_0 V c t d0, before2_1 V c t d1, before2_2 V c t d2]
  ihave HO := (done_of_owesAt V c t.castSucc) $$ Howes
  ihave HA := (Entails.of_eq (at_ring V c t)) $$ [HR HO]
  · isplitl [HR] <;> iassumption
  iapply (wp_point c (V c main_v6) (lg V c) t _ (hstage2_0 _) _ (hstage2_1 _) _ (hstage2_2 _) (Memref.isWhole_whole _) (Memref.isWhole_whole _) (Memref.isWhole_whole _)
    (Memref.isWhole_whole _) (V c main_v4_0) (waBlk (V c main_arg8) t.val t.isLt) (baBlk (V c main_v5) t.val t.isLt)
    (tileOf_logitsF (V c main_v4_0) (V c main_arg8) (V c main_v5) (V c main_v6) t.val t.isLt) _) $$ [HA H0 H1 H2]
  · isplitl [HA]; · iexact HA
    isplitl [H0]; · iexact H0
    isplitl [H1]; · iexact H1
    iexact H2
  iintro ⟨HA, H0, H1, H2⟩
  ihave HA := (Entails.of_eq (after_ring V c t)) $$ HA
  icases HA with ⟨HR, HO⟩
  isplitl [HT HR]; · isplitl [HT] <;> iassumption
  isplitl [HO]; · iapply (owesAt_of_done V c t.succ) $$ HO
  isplitl [H0]; · iexact H0
  isplitl [H1]; · iexact H1
  iexact H2

/-! ## The region over the thread state -/

variable (adm : (p : Fin 2) → (pcfgs (F := F) p).Adm)

/-- The proof data of both regions, with the logits' at its place. -/
def pdats2 : (p : Fin 2) → (c : Dev nD) → Dat τ (Elt F) (SparseCore.Cfg.HIx 1) ℕ UU ℕ (Pipeline.pin (pcfgs (F := F)) adm p) c
  | ⟨0, _⟩ => fun c => junkDat c
  | ⟨1, _⟩ => fun c => dat2 V c

/-- The arrays that neither a window of the region nor the kernel's own copies touch. -/
def Rest (c : Dev nD) : sProp 𝕄 :=
  bigSep (((Finset.univ.filter fun b : Ref sig .tc => ¬ b.isScoped) \ Finset.univ.image (Pipeline.arrRef spec2)).erase main_v6)
    fun b => ((c : Thread nD τ).loc b) ↦{fullShare} V c b

/-- The arrays outside the windows: the logits' array and the rest. -/
theorem unscopedRest2_split (c : Dev nD) :
    (Pipeline.unscopedRest (Ix := SparseCore.Cfg.HIx 1) (Name := ℕ) (U := UU) (Lvl := ℕ) spec2 c (V c) : sProp 𝕄)
      = iprop((oLoc c ↦{fullShare} V c main_v6) ∗ Rest V c) := by
  unfold Pipeline.unscopedRest Rest
  exact bigSep_erase (by decide)

variable (Vp : (c : Dev nD) → (b : Ref sig .tc) → Buf (Elt F) ((c : Thread nD τ).loc b))

/-- The rest does not depend on the logits' array. -/
theorem Rest_congr (hVne : ∀ c (b : Ref sig .tc), b ≠ main_v6 → Vp c b = V c b) (c : Dev nD) : (Rest Vp c : sProp 𝕄) = Rest V c := by
  unfold Rest
  exact bigSep_congr fun b hb => by rw [hVne c b (Finset.ne_of_mem_erase hb)]

/-- The ring's semaphores. -/
abbrev osem : Fin 4 → SemLoc sig := fun p => .dma (semS p)

/-- The region's own semaphores are apart from the pipeline's. -/
theorem ownFacts : Pipeline.OwnSemFacts spec2 osem := by decide

set_option backward.isDefEq.respectTransparency.types false in
/-- The logits' region, entered with every array at `V` and left with them at `Vp`: the logits at their values,
    everything else as it was. -/
def reg2 (hV : ∀ c, Vp c main_v6 = lg V c) (hVne : ∀ c (b : Ref sig .tc), b ≠ main_v6 → Vp c b = V c b) :
    Pipeline.RegionSeg (pcfgs (F := F)) adm (pdats2 V adm) none defs₀ 𝒱₀ (K (F := F)).L (K (F := F)).lev 1 where
  win := launch2.win.to₀
  block_pos := launch2.block_pos
  stage_whole := launch2.stage_whole
  K := Fin 4
  osem := osem
  ho := ownFacts
  hbody c := (body2 V c).loose
  hwaits := Pipeline.hwaits_of_owed_zero _ _ _ _ (K (F := F)).L (K (F := F)).lev 1 fun _ _ => rfl
  pre c := iprop(unscopedBufs c (V c) ∗ owesDone c)
  post c := iprop(unscopedBufs c (Vp c) ∗ owesDone c)
  X c := iprop((oLoc c ↦{fullShare} V c main_v6) ∗ Pipeline.ownSems0 osem c)
  Y c := iprop(oLoc c ↦{fullShare} Vp c main_v6)
  Z c := Rest V c
  hentry c := by
    have hsplit := Pipeline.arrays_of_unscopedBufs (p := 1) (pcfgs (F := F)) adm (pdats2 V adm) launch2.win launch2.arr_whole c
      ((pdats2 V adm 1 c).share_full fun _ => rfl) (V c) fun _ => rfl
    iintro ⟨⟨Hub, HO⟩, Hs, -⟩
    ihave H := hsplit $$ Hub
    icases H with ⟨Ha, Hrest⟩
    ihave Hrest := (Entails.of_eq (unscopedRest2_split V c)) $$ Hrest
    icases Hrest with ⟨Hv, Hrest⟩
    imodintro
    isplitl [Ha]; · iexact Ha
    isplitr; · unfold Pipeline.prefHeld; rw [show (Finset.univ : Finset (Fin 0)) = ∅ from rfl, BI.bigSep_empty]; iempintro
    isplitl [HO]; · iapply (owesAt_of_done V c 0) $$ HO
    isplitl [Hv Hs]; · isplitl [Hv] <;> iassumption
    iexact Hrest
  hin c := by
    rw [show (pdats2 V adm 1 c).Φ 0 = iprop(Ten c ∗ Ring V c 0) from rfl]
    have hr : (Ring V c 0 : sProp 𝕄) = iprop((oLoc c ↦{fullShare} V c main_v6) ∗ (bigSep Finset.univ fun p => iprop(∃ g, pt c (bufM p) g)) ∗ Pipeline.ownSems0 osem c) := by
      unfold Ring res
      rw [if_neg (by decide), homes_start, slots_rest c (lg V c) (stAt 0) fun p => if_neg (Nat.not_lt_zero _)]
      rfl
    rw [hr]
    iintro ⟨⟨Hv, Hs⟩, -, Hr⟩
    ihave Hr := (Entails.of_eq (scopedRest2_split (F := F) c)) $$ Hr
    icases Hr with ⟨HT, Hb⟩
    isplitl [HT]; · iexact HT
    isplitl [Hv]; · iexact Hv
    isplitl [Hb] <;> iassumption
  hout c := by
    rw [show (pdats2 V adm 1 c).Φ (Fin.last _) = iprop(Ten c ∗ Ring V c 97) from rfl]
    have hr : (Ring V c 97 : sProp 𝕄) = iprop((oLoc c ↦{fullShare} lg V c) ∗ (bigSep Finset.univ fun p => iprop(∃ g, pt c (bufM p) g)) ∗ Pipeline.ownSems0 osem c) := by
      unfold Ring res
      rw [if_pos rfl, homes_end c (V c main_v6) (lg V c) (fun i hi => dif_neg hi), slots_rest c (lg V c) (fun _ => none) fun p => rfl]
      rfl
    rw [hr, hV c]
    iintro ⟨HT, Hv, Hb, Hs⟩
    isplitl [Hv]; · iexact Hv
    isplitl [Hs]; · iexact Hs
    iapply (Entails.of_eq (scopedRest2_split (F := F) c).symm)
    isplitl [HT] <;> iassumption
  hexit c := by
    have hjoin := Pipeline.unscopedBufs_of_arrays (p := 1) (pcfgs (F := F)) adm (Ix := SparseCore.Cfg.HIx 1) (Name := ℕ) (U := UU) (Lvl := ℕ) launch2.win launch2.arr_whole c
      (pdats2 V adm) ((pdats2 V adm 1 c).share_full fun _ => rfl) (Vp c) (Vp c) ((pdats2 V adm 1 c).arrAt · cfg2.N)
      (fun w => by
        fin_cases w
        · exact ((pdats2 V adm 1 c).arrAt_in 0 rfl _).trans (hVne c main_v4_0 (by decide)).symm
        · exact ((pdats2 V adm 1 c).arrAt_in 1 rfl _).trans (hVne c main_arg8 (by decide)).symm
        · exact ((pdats2 V adm 1 c).arrAt_in 2 rfl _).trans (hVne c main_v5 (by decide)).symm)
      (fun b hb => rfl)
    iintro ⟨Ha, HO, Hv, Hrest⟩
    imodintro
    isplitr [HO]
    · iapply hjoin
      isplitl [Ha]; · iexact Ha
      iapply (Entails.of_eq (unscopedRest2_split Vp c).symm)
      isplitl [Hv]; · iexact Hv
      iapply (Entails.of_eq (Rest_congr V Vp hVne c).symm) $$ Hrest
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    · iexact HO

end Cert.Proof.ILogits
-- ==== Proof.Ideal.Main.lean ====
/-
  The whole program: what every array holds after each step of @main, @main's run on the TensorCore from the
  SparseCore call to the last reshape, and the run of all threads.
-/
module

public import proofs.«01_k».proof.Proof.Ideal.Obl
public import proofs.«01_k».proof.Proof.Ideal.LogitsRegion
public import Idealize.ShloMosaic.Lib.Pipeline.Frame

@[expose] public section

noncomputable section

namespace Cert.Proof.IMain

open Cert.KernelIdeal Cert.KernelIdeal.Gen
open Cert.Proof.ISetup
open Cert.Proof.ITile (iLoc xLoc oLoc poolF)
open Cert.Proof.ILaunch (P PreOK ids tbl st0_eq dn0_eq tileObl vecSplit)
open Cert.Proof.IHead (owesDone reg1 pdats1)
open Cert.Proof.ILogits (reg2 pdats2 lg sep_assoc_eq')
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (ucRefs unscopedBufs_held sub_ucRefs)
open Idealize.ShloMosaic.StableHlo (held wp_hlo_within)

variable {F : FTy → Type} [FloatOps F]

local notation "𝕄" => MM F

variable (m : (ℓ : Loc nD τ sig) → Buf (Elt F) ℓ) (ρ : Dev nD → PrngReg)

/-! ## What the arrays hold after each step -/

/-- The program's three reshapes before the head. -/
abbrev op1 : HloOp τ sig (Elt F) := StableHlo.reshape main_arg3 main_v1 (rfl : (.f32 : EltTy) = .f32) shapeCasts_S256_S1x256
/-- The second of them. -/
abbrev op2 : HloOp τ sig (Elt F) := StableHlo.reshape main_arg5 main_v2 (rfl : (.f32 : EltTy) = .f32) shapeCasts_S256_S1x256
/-- The third of them. -/
abbrev op3 : HloOp τ sig (Elt F) := StableHlo.reshape main_arg7 main_v3 (rfl : (.f32 : EltTy) = .f32) shapeCasts_S1_S1x1
/-- The reshape between the two TensorCore calls. -/
abbrev op5 : HloOp τ sig (Elt F) := StableHlo.reshape main_arg9 main_v5 (rfl : (.f32 : EltTy) = .f32) shapeCasts_S100000_S1x100000
/-- The two results cut out after the last call. -/
abbrev op7 : HloOp τ sig (Elt F) := StableHlo.unary main_v6 main_v7 ((extractStridedSlice S1024x99328 ![0, 0] · slices_S1024x100096_S1024x99328_0_0) :
  (⟨S1024x100096, .f32⟩ : BufTy).Contents (Elt F) → (⟨S1024x99328, .f32⟩ : BufTy).Contents (Elt F))
/-- The second of them. -/
abbrev op8 : HloOp τ sig (Elt F) := StableHlo.reshape main_v4_1 main_v8 (rfl : (.f32 : EltTy) = .f32) shapeCasts_S1024x1_S1024

/-- A valuation with one array of the TensorCore's replaced. -/
def upd (W : Valuation τ sig (Elt F)) (b : Ref sig .tc) (f : b.ty.Contents (Elt F)) : Valuation τ sig (Elt F) :=
  Function.update W (Proc.devRef .tc b) f

/-- The replaced array. -/
theorem upd_same (W : Valuation τ sig (Elt F)) (b : Ref sig .tc) (f : b.ty.Contents (Elt F)) : upd W b f (Proc.devRef .tc b) = f :=
  Function.update_self _ _ _
/-- An array that is not the replaced one. -/
theorem upd_ne (W : Valuation τ sig (Elt F)) (b : Ref sig .tc) (f : b.ty.Contents (Elt F)) {r : Ref sig .tc} (h : r ≠ b) :
    upd W b f (Proc.devRef .tc r) = W (Proc.devRef .tc r) :=
  Function.update_of_ne (fun e => h (Proc.devRef_injective _ e)) _ _

/-- At the launch. -/
def W0 (d : Dev nD) : Valuation τ sig (Elt F) := fun b => m (d, b)
/-- After the SparseCore call: the pooled rows. -/
def W1 (d : Dev nD) : Valuation τ sig (Elt F) := upd (W0 m d) main_v0 (poolF (tbl m d) (ids m d))
/-- After the three reshapes. -/
def W2 (d : Dev nD) : Valuation τ sig (Elt F) := op3.result (op2.result (op1.result (W1 m d)))
/-- The TensorCore's part of it. -/
abbrev V2 (c : Dev nD) (b : Ref sig .tc) : Buf (Elt F) ((c : Thread nD τ).loc b) := W2 m c b
/-- After the head: the hidden layer and the values. -/
def W3 (d : Dev nD) : Valuation τ sig (Elt F) := upd (upd (W2 m d) main_v4_0 (IHead.h2 (V2 m) d)) main_v4_1 (IHead.vals (V2 m) d)
/-- The TensorCore's part of it. -/
abbrev V3 (c : Dev nD) (b : Ref sig .tc) : Buf (Elt F) ((c : Thread nD τ).loc b) := W3 m c b
/-- After the reshape of the logits' bias. -/
def W4 (d : Dev nD) : Valuation τ sig (Elt F) := op5.result (W3 m d)
/-- The TensorCore's part of it. -/
abbrev V4 (c : Dev nD) (b : Ref sig .tc) : Buf (Elt F) ((c : Thread nD τ).loc b) := W4 m c b
/-- After the logits. -/
def W5 (d : Dev nD) : Valuation τ sig (Elt F) := upd (W4 m d) main_v6 (lg (V4 m) d)
/-- The TensorCore's part of it. -/
abbrev V5 (c : Dev nD) (b : Ref sig .tc) : Buf (Elt F) ((c : Thread nD τ).loc b) := W5 m c b
/-- At the return. -/
def W6 (d : Dev nD) : Valuation τ sig (Elt F) := op8.result (op7.result (W5 m d))

/-- After the head, its first result. -/
theorem V3_v40 (c : Dev nD) : V3 m c main_v4_0 = IHead.h2 (V2 m) c := by
  show W3 m c _ = _
  unfold W3
  rw [upd_ne _ _ _ (by decide), upd_same]
/-- After the head, its second result. -/
theorem V3_v41 (c : Dev nD) : V3 m c main_v4_1 = IHead.vals (V2 m) c := by
  show W3 m c _ = _
  unfold W3
  rw [upd_same]
/-- The head changes no other array. -/
theorem V3_ne (c : Dev nD) (b : Ref sig .tc) (h0 : b ≠ main_v4_0) (h1 : b ≠ main_v4_1) : V3 m c b = V2 m c b := by
  show W3 m c _ = W2 m c _
  unfold W3
  rw [upd_ne _ _ _ h1, upd_ne _ _ _ h0]
/-- After the last call, the logits' array. -/
theorem V5_v6 (c : Dev nD) : V5 m c main_v6 = lg (V4 m) c := by
  show W5 m c _ = _
  unfold W5
  rw [upd_same]
/-- The last call changes no other array. -/
theorem V5_ne (c : Dev nD) (b : Ref sig .tc) (h : b ≠ main_v6) : V5 m c b = V4 m c b := by
  show W5 m c _ = W4 m c _
  unfold W5
  rw [upd_ne _ _ _ h]

/-! ## The ghost state of the launch -/

/-- The pipelines are admissible. -/
abbrev adm : (p : Fin 2) → (pcfgs (F := F) p).Adm := fun p => (cfgs p).toPCfg_adm

/-- Different regions have different cells. -/
theorem pin_inj : Function.Injective (Pipeline.cellOf (nD := nD) (τ := τ) (Pipeline.pin (pcfgs (F := F)) adm)) := cellOf_inj

/-- The launch's element: the handshakes' rounds, the two pipelines' rounds, no counter. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- One device's share of the pipelines' ghost state. -/
def G (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- Nothing, many times, is nothing. -/
theorem bigSep_emp' {I : Type} (s : Finset I) : (bigSep s fun _ => iprop(emp)) = (iprop(emp) : sProp 𝕄) := bigSep_emp_const s

/-- The launch's element splits into what the threads start from. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) := by
    rw [show (bigSep Finset.univ fun thr : Thread nD τ => bigSep Finset.univ fun q : Fin 1 => (P (F := F) m).x q thr) = bigSep Finset.univ fun _ => iprop(emp) from
      bigSep_congr fun _ _ => bigSep_univ_of_subsingleton (0 : Fin 1), bigSep_emp']
  have hG : (bigSep Finset.univ fun d : Dev nD => G (F := F) d : sProp 𝕄)
      = iprop((bigSep Finset.univ fun d : Dev nD => bigSep Finset.univ fun p : Fin 2 => Pipeline.cellsGhost (Pipeline.pin (pcfgs (F := F)) adm) EP p d)
        ∗ bigSep Finset.univ fun d : Dev nD => bigSep Finset.univ fun p : Fin 2 => Pipeline.toksInit (Pipeline.pin (pcfgs (F := F)) adm) EP p d) :=
    bigSep_sep' (M := 𝕄) _ (fun d : Dev nD => bigSep Finset.univ fun p : Fin 2 => Pipeline.cellsGhost (Pipeline.pin (pcfgs (F := F)) adm) EP p d) _
  rw [hx, hG]
  unfold u₀
  iintro Hu
  ihave H := (ownU_pair _ _) $$ Hu
  icases H with ⟨HH, HR⟩
  ihave H := (own_pair_emb (embR : Emb (UP × Counters) (MM F)) _ _) $$ HR
  icases H with ⟨H, -⟩
  ihave H := (Entails.of_eq (show (BI.own (((Emb.inl : Emb UP (UP × Counters)).trans (embR : Emb (UP × Counters) (MM F)))
      (initOf (Pipeline.cells (Pipeline.pin (pcfgs (F := F)) adm) pin_inj) (Pipeline.launchToks (Pipeline.pin (pcfgs (F := F)) adm) pin_inj))) : sProp 𝕄)
    = BI.own (EP (initOf (Pipeline.cells (Pipeline.pin (pcfgs (F := F)) adm) pin_inj) (Pipeline.launchToks (Pipeline.pin (pcfgs (F := F)) adm) pin_inj))) from rfl)) $$ H
  imod (Pipeline.fund_ghost (Pipeline.pin (pcfgs (F := F)) adm) EP pin_inj) $$ H with ⟨Hg, Ht⟩
  imodintro
  isplitl [HH]; · iexact HH
  isplitl [Hg Ht]
  · isplitl [Hg] <;> iassumption
  iempintro

/-! ## @main on the TensorCore -/

/-- The arrays of @main the SparseCore call does not touch, held at a valuation. -/
def RestP (d : Dev nD) (W : (b : Ref sig .tc) → Buf (Elt F) ((d : Thread nD τ).loc b)) : sProp 𝕄 :=
  bigSep (((((Finset.univ : Finset (Ref sig .tc)).filter fun b => ¬ b.isScoped).erase main_arg0).erase main_arg1).erase main_v0) fun b =>
    ((d : Thread nD τ).loc b) ↦{fullShare} W b

/-- The TensorCore's arrays: the three of the SparseCore call, and the rest. -/
theorem uc_split (d : Dev nD) (W : (b : Ref sig .tc) → Buf (Elt F) ((d : Thread nD τ).loc b)) :
    (unscopedBufs d W : sProp 𝕄) = iprop((iLoc d ↦{fullShare} W main_arg0) ∗ (xLoc d ↦{fullShare} W main_arg1) ∗ (oLoc d ↦{fullShare} W main_v0) ∗ RestP d W) := by
  unfold unscopedBufs RestP
  rw [bigSep_erase (i := main_arg0) (by decide), bigSep_erase (i := main_arg1) (by decide), bigSep_erase (i := main_v0) (by decide)]
  rfl

/-- The rest does not depend on the pooled rows. -/
theorem RestP_congr (d : Dev nD) (W W' : (b : Ref sig .tc) → Buf (Elt F) ((d : Thread nD τ).loc b)) (h : ∀ b, b ≠ main_v0 → W b = W' b) :
    (RestP d W : sProp 𝕄) = RestP d W' := by
  unfold RestP
  exact bigSep_congr fun b hb => by rw [h b (Finset.ne_of_mem_erase hb)]

/-- The SparseCore call's arrays before it, out of all the arrays at the launch. -/
theorem pool_in (d : Dev nD) : (unscopedBufs d (fun b => m ((d : Thread nD τ).loc b)) : sProp 𝕄)
    = iprop((bigSep Finset.univ fun c : Fin ((K (F := F)).nCore 0) => (P m).st 0 d c) ∗ RestP d fun b => W0 m d b) := by
  rw [st0_eq, uc_split, sep_assoc_eq', sep_assoc_eq']
  rfl

/-- And after it, with the pooled rows where the result was. -/
theorem pool_out (d : Dev nD) : (iprop((bigSep Finset.univ fun c : Fin ((K (F := F)).nCore 0) => (P m).dn 0 d c) ∗ RestP d fun b => W0 m d b) : sProp 𝕄)
    = held (d : Thread nD τ) (ucRefs τ sig) (W1 m d) := by
  rw [dn0_eq, ← unscopedBufs_held, uc_split, sep_assoc_eq', sep_assoc_eq',
    RestP_congr d (fun b => W1 m d b) (fun b => W0 m d b) fun b hb => upd_ne _ _ _ hb]
  unfold W1
  rw [upd_ne _ _ _ (show main_arg0 ≠ main_v0 by decide), upd_ne _ _ _ (show main_arg1 ≠ main_v0 by decide), upd_same]
  rfl

/-- Two conjuncts, one by one. -/
theorem fin_two' (Φ : Fin 2 → sProp 𝕄) : bigSep Finset.univ Φ = iprop(Φ 0 ∗ Φ 1) := bigSep_fin_two Φ

/-- A TensorCore call of @main is its pipeline's region. -/
theorem wp_region {p : Fin 2} {pd : (p : Fin 2) → (c : Dev nD) → Pipeline.Dat τ (Elt F) (SparseCore.Cfg.HIx 1) ℕ UU ℕ (Pipeline.pin (pcfgs (F := F)) adm p) c}
    (R : Pipeline.RegionSeg (pcfgs (F := F)) adm pd none defs₀ 𝒱₀ (K (F := F)).L (K (F := F)).lev p) (c : Dev nD) (Q : PUnit → sProp 𝕄) :
    iprop((iprop(boundary (c : Thread nD τ) ∗ R.post c) -∗ Q ⟨⟩) ∗ boundary (c : Thread nD τ) ∗ R.pre c ∗ levAts (K (F := F)).L (K (F := F)).lev
        ∗ Pipeline.cellsGhost (Pipeline.pin (pcfgs (F := F)) adm) EP p c ∗ Pipeline.toksInit (Pipeline.pin (pcfgs (F := F)) adm) EP p c)
      ⊢ wp frame (wpE ((K (F := F)).defs (D (F := F))) 𝒱 (SparseCore.T c) none) Set.univ
          (Prog.lift (.customCall (SparseCore.inner (Pipeline.entry p)) ())) Q := by
  iintro ⟨HQ, H⟩
  iapply ((K (F := F)).wp_liftProg (D (F := F)) 𝒱 (SparseCore.T c) Set.univ none (.op (.customCall (Pipeline.entry p) ()) .ret) Q)
  iapply (Pipeline.RegionSeg.wp (pcfgs (F := F)) adm pd none pin_inj EP defs₀ 𝒱₀ (K (F := F)).L (K (F := F)).lev R c none (fun _ h => nomatch h) _ Q)
  isplitr [H]
  · iintro H
    rw [wp_ret]; imodintro
    iapply HQ; iexact H
  iexact H

/-- The record of what @main's thread owes and where it stands, once the SparseCore call has returned, has its debts apart. -/
theorem tcSt_one (d : Dev nD) : ∃ R : sProp 𝕄, (K (F := F)).tcSt EH d 1 = iprop(owesDone (F := F) d ∗ R) := by
  unfold SparseCore.Cfg.tcSt
  rw [(K (F := F)).Otc_end d le_rfl]
  exact ⟨iprop(_ ∗ _ ∗ _ ∗ _), rfl⟩

/-- One host operation of @main, over all its arrays. -/
theorem wp_step (d : Dev nD) (op : HloOp τ sig (Elt F)) (hs : op.bufs ⊆ StableHlo.tcRefs τ sig) (hf : op.fresh = ∅) (W : Valuation τ sig (Elt F)) (Q : PUnit → sProp 𝕄) :
    iprop((boundary (d : Thread nD τ) ∗ held (d : Thread nD τ) (ucRefs τ sig) W)
        ∗ (iprop(boundary (d : Thread nD τ) ∗ held (d : Thread nD τ) (ucRefs τ sig) (op.result W)) -∗ Q ⟨⟩))
      ⊢ wp frame (wpE ((K (F := F)).defs (D (F := F))) 𝒱 (SparseCore.T d) none) Set.univ (hlo rfl op fun _ => .ret ⟨⟩) Q := by
  iintro ⟨H, HQ⟩
  iapply (wp_hlo_within 𝒱 (d : Thread nD τ) none Set.univ (sub_ucRefs op hs) (hf := hf)) $$ H
  iintro H
  rw [wp_ret]; imodintro
  iapply HQ; iexact H

/-- The two regions of @main, between the valuations they run between. -/
abbrev r1 := IHead.reg1 (V2 m) adm (V3 m) (V3_v40 m) (V3_v41 m) (V3_ne m)
/-- The second region, from what the first left. -/
abbrev r2 := ILogits.reg2 (V4 m) adm (V5 m) (V5_v6 m) (V5_ne m)

/-- What the head's region starts from. -/
theorem r1_pre (d : Dev nD) : ((r1 m).pre d : sProp 𝕄) = iprop(unscopedBufs d (fun b => W2 m d b) ∗ owesDone d) := rfl
/-- What the head's region leaves. -/
theorem r1_post (d : Dev nD) : ((r1 m).post d : sProp 𝕄) = iprop(unscopedBufs d (fun b => W3 m d b) ∗ owesDone d) := rfl
/-- What the logits' region starts from. -/
theorem r2_pre (d : Dev nD) : ((r2 m).pre d : sProp 𝕄) = iprop(unscopedBufs d (fun b => W4 m d b) ∗ owesDone d) := rfl
/-- What the logits' region leaves. -/
theorem r2_post (d : Dev nD) : ((r2 m).post d : sProp 𝕄) = iprop(unscopedBufs d (fun b => W5 m d b) ∗ owesDone d) := rfl

/-- What @main ends with on a device. -/
abbrev FIN (d : Dev nD) : sProp 𝕄 := held (d : Thread nD τ) (ucRefs τ sig) (W6 m d)

/-- @main on device `d`: the SparseCore call, the head's region and the logits' with the reshapes between, from every
    array as at the launch to every array as `W6` has it. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd G
  rw [pool_in, fin_two' fun p => Pipeline.cellsGhost (Pipeline.pin (pcfgs (F := F)) adm) EP p d,
    fin_two' fun p => Pipeline.toksInit (Pipeline.pin (pcfgs (F := F)) adm) EP p d]
  simp only [main, wp_bind, wp_pure]
  iintro ⟨#Hctx, Hst, ⟨Hb, ⟨Hp, Hr⟩, Hts, -⟩, ⟨Hg0, Hg1⟩, Ht0, Ht1⟩
  ihave #Hlev := ((K (F := F)).ctx_levAts (EH := EH) (P := P m) (κ := κ)) $$ Hctx
  iapply ((K (F := F)).wp_run (D (F := F)) 𝒱 (EH := EH) (P := P m) κ d 0)
  isplitr; · iexact Hctx
  isplitl [Hst]; · iexact Hst
  isplitl [Hp]; · iexact Hp
  iintro ⟨Hst, Hdn⟩
  ihave Hst := (Entails.of_eq (show ((K (F := F)).tcSt EH d ((0 : Fin 1).val + 1) : sProp 𝕄) = iprop(owesDone (F := F) d ∗ R) from hR)) $$ Hst
  icases Hst with ⟨HO, HR⟩
  ihave Hh := (Entails.of_eq (pool_out m d)) $$ [Hdn Hr]
  · isplitl [Hdn] <;> iassumption
  iapply (wp_step d op1 (StableHlo.reshape_bufs_sub ..) rfl (W1 m d))
  isplitl [Hb Hh]; · isplitl [Hb] <;> iassumption
  iintro ⟨Hb, Hh⟩
  iapply (wp_step d op2 (StableHlo.reshape_bufs_sub ..) rfl _)
  isplitl [Hb Hh]; · isplitl [Hb] <;> iassumption
  iintro ⟨Hb, Hh⟩
  iapply (wp_step d op3 (StableHlo.reshape_bufs_sub ..) rfl _)
  isplitl [Hb Hh]; · isplitl [Hb] <;> iassumption
  iintro ⟨Hb, Hh⟩
  ihave Hh := (Entails.of_eq (show (held (d : Thread nD τ) (ucRefs τ sig) (op3.result (op2.result (op1.result (W1 m d)))) : sProp 𝕄) = unscopedBufs d fun b => W2 m d b from (unscopedBufs_held d (W2 m d)).symm)) $$ Hh
  iapply (wp_region (r1 m) d)
  isplitr [Hb Hh HO Hg0 Ht0]
  swap
  · isplitl [Hb]; · iexact Hb
    isplitl [Hh HO]
    · rw [r1_pre]
      isplitl [Hh]; · iexact Hh
      iexact HO
    isplitr; · iexact Hlev
    isplitl [Hg0] <;> iassumption
  iintro ⟨Hb, H⟩
  ihave H := (Entails.of_eq (r1_post m d)) $$ H
  icases H with ⟨Hh, HO⟩
  ihave Hh := (Entails.of_eq (unscopedBufs_held (Ix := SparseCore.Cfg.HIx 1) (Name := ℕ) (U := UU) (Lvl := ℕ) d (W3 m d))) $$ Hh
  iapply (wp_step d op5 (StableHlo.reshape_bufs_sub ..) rfl (W3 m d))
  isplitl [Hb Hh]; · isplitl [Hb] <;> iassumption
  iintro ⟨Hb, Hh⟩
  ihave Hh := (Entails.of_eq (show (held (d : Thread nD τ) (ucRefs τ sig) (op5.result (W3 m d)) : sProp 𝕄) = unscopedBufs d fun b => W4 m d b from (unscopedBufs_held d (W4 m d)).symm)) $$ Hh
  iapply (wp_region (r2 m) d)
  isplitr [Hb Hh HO Hg1 Ht1]
  swap
  · isplitl [Hb]; · iexact Hb
    isplitl [Hh HO]
    · rw [r2_pre]
      isplitl [Hh]; · iexact Hh
      iexact HO
    isplitr; · iexact Hlev
    isplitl [Hg1] <;> iassumption
  iintro ⟨Hb, H⟩
  ihave H := (Entails.of_eq (r2_post m d)) $$ H
  icases H with ⟨Hh, HO⟩
  ihave Hh := (Entails.of_eq (unscopedBufs_held (Ix := SparseCore.Cfg.HIx 1) (Name := ℕ) (U := UU) (Lvl := ℕ) d (W5 m d))) $$ Hh
  iapply (wp_step d op7 (StableHlo.unary_bufs_sub ..) rfl (W5 m d))
  isplitl [Hb Hh]; · isplitl [Hb] <;> iassumption
  iintro ⟨Hb, Hh⟩
  iapply (wp_step d op8 (StableHlo.reshape_bufs_sub ..) rfl _)
  isplitl [Hb Hh]; · isplitl [Hb] <;> iassumption
  iintro ⟨Hb, Hh⟩
  imodintro
  isplitl [HO HR]
  · iapply (Entails.of_eq hR.symm)
    isplitl [HO] <;> iassumption
  isplitl [Hh]; · iapply (Entails.of_eq (show (held (d : Thread nD τ) (ucRefs τ sig) (op8.result (op7.result (W5 m d))) : sProp 𝕄) = FIN m d from rfl)) $$ Hh
  isplitl [Hb] <;> iassumption

/-! ## The run -/

/-- What the run leaves on device `d`: every array of @main as `W6` has it. -/
def fq (d : Dev nD) (s' : Phys nD τ sig (Elt F)) : Prop :=
  ∀ b : Ref sig .tc, b.isScoped = false → s'.mem.mem ((d : Thread nD τ).loc b) = W6 m d b

/-- It fixes the memory at the end. -/
theorem hfin (d : Dev nD) (s' : Phys nD τ sig (Elt F)) : iprop(FIN m d ∗ SI s') ⊢ (⌜fq m d s'⌝ : sProp 𝕄) := by
  unfold FIN
  rw [← unscopedBufs_held]
  unfold unscopedBufs
  iintro H
  ihave H := (pointsTo_read_all _ _ _ s') $$ H
  icases H with ⟨%h, -⟩
  ipureintro
  exact fun b hb => h b (Finset.mem_filter.mpr ⟨Finset.mem_univ _, by simp [hb]⟩)

/-- The run of all the threads: from any memory whose ids name rows of the table, it ends, with every array of @main
    as `W6` has it on every device and every semaphore at zero. -/
theorem run_main [∀ e, Nonempty (Elt F e)] (hpre : PreOK m) :
    θ_run (Cert.KernelIdeal.defs (F := F)) (Cert.KernelIdeal.threads (F := F)) ⟨m, fun _ => 0, ρ⟩
      (fun r => (∀ d : Dev nD, ∀ b : Ref sig .tc, b.isScoped = false → r.2.mem ((d : Thread nD τ).loc b) = W6 m d b) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fq m) (hfin m)
    (fun r => (∀ d : Dev nD, ∀ b : Ref sig .tc, b.isScoped = false → r.2.mem ((d : Thread nD τ).loc b) = W6 m d b) ∧ r.2.sem = fun _ => 0)
    (fun _ h hz => ⟨h, hz⟩)

/-! ## What `W6` holds -/

/-- The arguments are as at the launch. -/
theorem W6_arg (d : Dev nD) (b : Ref sig .tc) (h : b ∉ [main_v0, main_v1, main_v2, main_v3, main_v4_0, main_v4_1, main_v5, main_v6, main_v7, main_v8]) :
    W6 m d b = m ((d : Thread nD τ).loc b) := by
  simp only [List.mem_cons, not_or, List.not_mem_nil, not_false_eq_true, and_true] at h
  obtain ⟨h0, h1, h2, h3, h40, h41, h5, h6, h7, h8⟩ := h
  unfold W6
  rw [StableHlo.reshape_result_ne _ _ _ _ _ _ _ h8, StableHlo.unary_result_ne _ _ _ _ _ _ h7]
  unfold W5
  rw [upd_ne _ _ _ h6]
  unfold W4
  rw [StableHlo.reshape_result_ne _ _ _ _ _ _ _ h5]
  unfold W3
  rw [upd_ne _ _ _ h41, upd_ne _ _ _ h40]
  unfold W2
  rw [StableHlo.reshape_result_ne _ _ _ _ _ _ _ h3, StableHlo.reshape_result_ne _ _ _ _ _ _ _ h2, StableHlo.reshape_result_ne _ _ _ _ _ _ _ h1]
  unfold W1
  rw [upd_ne _ _ _ h0]
  rfl

/-- The biases as the head's rows, the values' bias as its cell, the logits' bias as one row. -/
def b1 (d : Dev nD) : S1x256.Idx → F .f32 := fun i => shapeCast S1x256 (m ((d : Thread nD τ).loc main_arg3)) shapeCasts_S256_S1x256 i
/-- The second bias as one row. -/
def b2 (d : Dev nD) : S1x256.Idx → F .f32 := fun i => shapeCast S1x256 (m ((d : Thread nD τ).loc main_arg5)) shapeCasts_S256_S1x256 i
/-- The values' bias as one element. -/
def bv (d : Dev nD) : S1x1.Idx → F .f32 := fun i => shapeCast S1x1 (m ((d : Thread nD τ).loc main_arg7)) shapeCasts_S1_S1x1 i
/-- The logits' bias as one row. -/
def ba (d : Dev nD) : S1x100000.Idx → F .f32 := fun i => shapeCast S1x100000 (m ((d : Thread nD τ).loc main_arg9)) shapeCasts_S100000_S1x100000 i

/-- The hidden layer, of the arguments. -/
def hid (d : Dev nD) : S1024x256.Idx → F .f32 :=
  k1_pay2 (ids m d) (poolF (tbl m d) (ids m d)) (m ((d : Thread nD τ).loc main_arg2)) (b1 m d) (m ((d : Thread nD τ).loc main_arg4)) (b2 m d)

/-- The values, of the arguments. -/
def vls (d : Dev nD) : S1024x1.Idx → F .f32 :=
  k1_pay1 (k1_pay3 (ids m d) (poolF (tbl m d) (ids m d)) (m ((d : Thread nD τ).loc main_arg2)) (b1 m d) (m ((d : Thread nD τ).loc main_arg4)) (b2 m d)
    (m ((d : Thread nD τ).loc main_arg6))) (bv m d)

/-- Before the head, an array no earlier step writes is as at the launch. -/
theorem V2_arg (d : Dev nD) (b : Ref sig .tc) (h : b ∉ [main_v0, main_v1, main_v2, main_v3]) : V2 m d b = m ((d : Thread nD τ).loc b) := by
  simp only [List.mem_cons, not_or, List.not_mem_nil, not_false_eq_true, and_true] at h
  obtain ⟨h0, h1, h2, h3⟩ := h
  show W2 m d _ = _
  unfold W2
  rw [StableHlo.reshape_result_ne _ _ _ _ _ _ _ h3, StableHlo.reshape_result_ne _ _ _ _ _ _ _ h2, StableHlo.reshape_result_ne _ _ _ _ _ _ _ h1]
  unfold W1
  rw [upd_ne _ _ _ h0]
  rfl

/-- Before the head, the pooled rows. -/
theorem V2_v0 (d : Dev nD) : V2 m d main_v0 = poolF (tbl m d) (ids m d) := by
  show W2 m d _ = _
  unfold W2
  rw [StableHlo.reshape_result_ne _ _ _ _ _ _ _ (by decide), StableHlo.reshape_result_ne _ _ _ _ _ _ _ (by decide), StableHlo.reshape_result_ne _ _ _ _ _ _ _ (by decide)]
  unfold W1
  rw [upd_same]

/-- The SparseCore call changes only the pooled rows. -/
theorem W1_arg (d : Dev nD) (b : Ref sig .tc) (h : b ≠ main_v0) : W1 m d b = m ((d : Thread nD τ).loc b) := by
  unfold W1
  rw [upd_ne _ _ _ h]
  rfl

/-- Before the head, the first bias. -/
theorem V2_v1 (d : Dev nD) : V2 m d main_v1 = b1 m d := by
  show W2 m d _ = _
  unfold W2
  rw [StableHlo.reshape_result_ne _ _ _ _ _ _ _ (by decide), StableHlo.reshape_result_ne _ _ _ _ _ _ _ (by decide), StableHlo.reshape_result,
    W1_arg m d main_arg3 (by decide)]
  rfl

/-- Before the head, the second bias. -/
theorem V2_v2 (d : Dev nD) : V2 m d main_v2 = b2 m d := by
  show W2 m d _ = _
  unfold W2
  rw [StableHlo.reshape_result_ne _ _ _ _ _ _ _ (by decide), StableHlo.reshape_result, StableHlo.reshape_result_ne _ _ _ _ _ _ _ (by decide),
    W1_arg m d main_arg5 (by decide)]
  rfl

/-- Before the head, the values' bias. -/
theorem V2_v3 (d : Dev nD) : V2 m d main_v3 = bv m d := by
  show W2 m d _ = _
  unfold W2
  rw [StableHlo.reshape_result, StableHlo.reshape_result_ne _ _ _ _ _ _ _ (by decide), StableHlo.reshape_result_ne _ _ _ _ _ _ _ (by decide),
    W1_arg m d main_arg7 (by decide)]
  rfl

/-- The head's hidden layer, of the arguments. -/
theorem h2_eq (d : Dev nD) : IHead.h2 (V2 m) d = hid m d := by
  unfold IHead.h2 hid
  rw [V2_arg m d main_arg0 (by decide), V2_v0, V2_arg m d main_arg2 (by decide), V2_v1, V2_arg m d main_arg4 (by decide), V2_v2]

/-- The head's values, of the arguments. -/
theorem vals_eq (d : Dev nD) : IHead.vals (V2 m) d = vls m d := by
  unfold IHead.vals vls
  rw [V2_arg m d main_arg0 (by decide), V2_v0, V2_arg m d main_arg2 (by decide), V2_v1, V2_arg m d main_arg4 (by decide), V2_v2,
    V2_arg m d main_arg6 (by decide), V2_v3]

/-- The first result: the columns cut from the logits. -/
theorem W6_v7 (d : Dev nD) : ∃ f0 : S1024x100096.Idx → F .f32, W6 m d main_v7
    = extractStridedSlice S1024x99328 ![0, 0] (ILogits.logitsF (hid m d) (m ((d : Thread nD τ).loc main_arg8)) (ba m d) f0) slices_S1024x100096_S1024x99328_0_0 := by
  refine ⟨V4 m d main_v6, ?_⟩
  have e40 : V4 m d main_v4_0 = hid m d := by
    show W4 m d _ = _
    unfold W4
    rw [StableHlo.reshape_result_ne _ _ _ _ _ _ _ (by decide), ← h2_eq]
    exact V3_v40 m d
  have e8 : V4 m d main_arg8 = m ((d : Thread nD τ).loc main_arg8) := by
    show W4 m d _ = _
    unfold W4
    rw [StableHlo.reshape_result_ne _ _ _ _ _ _ _ (by decide), ← V2_arg m d main_arg8 (by decide)]
    exact V3_ne m d main_arg8 (by decide) (by decide)
  have e5 : V4 m d main_v5 = ba m d := by
    show W4 m d _ = _
    unfold W4
    rw [StableHlo.reshape_result, show W3 m d main_arg9 = m ((d : Thread nD τ).loc main_arg9) from
      (V3_ne m d main_arg9 (by decide) (by decide)).trans (V2_arg m d main_arg9 (by decide))]
    rfl
  unfold W6
  rw [StableHlo.reshape_result_ne _ _ _ _ _ _ _ (by decide), StableHlo.unary_result, show W5 m d main_v6 = lg (V4 m) d from V5_v6 m d]
  unfold lg
  rw [e40, e8, e5]

/-- The second result: the values as a line. -/
theorem W6_v8 (d : Dev nD) : W6 m d main_v8 = fun i => shapeCast S1024 (vls m d) shapeCasts_S1024x1_S1024 i := by
  have e : W5 m d main_v4_1 = vls m d := by
    rw [← vals_eq]
    refine (V5_ne m d main_v4_1 (by decide)).trans ?_
    show W4 m d _ = _
    unfold W4
    rw [StableHlo.reshape_result_ne _ _ _ _ _ _ _ (by decide)]
    exact V3_v41 m d
  unfold W6
  rw [StableHlo.reshape_result, StableHlo.unary_result_ne _ _ _ _ _ _ (by decide), e]
  rfl

end Cert.Proof.IMain

end
-- ==== Proof.Pre.lean ====
/-
  What the preconditions say of the arrays, element by element: every id names a row of the table, and row 0 of the
  table is zero.
-/
module

public import proofs.«01_k».proof.Defs
public import proofs.«01_k».proof.Proof.Gen.Pre_ids_in_range
public import proofs.«01_k».proof.Proof.Gen.Pre_ids_in_range_row_zero
public import Idealize.ShloMosaic.Lib.ReduceAll
public import Idealize.ShloMosaic.Lib.WordCmp
public import Idealize.ShloMosaic.PureOps.Ideal
public import Idealize.ShloMosaic.Lib.Pointwise

@[expose] public section

noncomputable section

namespace Cert.Proof.Pre

open Idealize.ShloMosaic

/-- The scalar shape has one index. -/
instance scalarIdx : Subsingleton Cert.Pre_ids_in_range.S_.Idx := ⟨fun _ _ => funext fun a => a.elim0⟩

/-- The scalar shape of the second precondition has one index. -/
instance scalarIdx' : Subsingleton Cert.Pre_ids_in_range_row_zero.S_.Idx := ⟨fun _ _ => funext fun a => a.elim0⟩

/-- A one-bit word made from a truth value and equal to 1 came from `true`. -/
theorem true_of_ofBool {b : Bool} (h : BitVec.ofBool b = 1#1) : b = true := by
  revert h
  cases b <;> decide

/-- A word at least 0 and below 100000 as a signed number is below 100000 as a natural number. -/
theorem lt_of_and {x : BitVec 32} (h : IntOp.andi (IntOp.cmpi .sge x 0#32) (IntOp.cmpi .slt x 100000#32) = 1#1) :
    x.toNat < 100000 := by
  have e := WordCmp.andi_sge_zero_slt_ofNat (w := 32) (k := 100000) (by decide) x
  rw [show BitVec.ofNat 32 100000 = 100000#32 from rfl, h] at e
  by_contra hx
  rw [decide_eq_false hx] at e
  exact absurd e (by decide)

/-- `ids_in_range` true: every id is below 100000. -/
theorem ids_lt [Cert.Pre_ids_in_range.Facts] {F : FTy → Type} [FloatOps F] (a0 a1 a2 a3 a4 a5 a6 a7 a8 a9) (j)
    (h : Cert.Pre_ids_in_range.fn (F := F) a0 a1 a2 a3 a4 a5 a6 a7 a8 a9 j = 1#1) (i) : (a0 i).toNat < 100000 := by
  dsimp only [Cert.Pre_ids_in_range.fn] at h
  exact lt_of_and (Host.reduce_andi_all _ _ _ _ _ h i)

/-- `ids_in_range_row_zero` true: every id is below 100000. -/
theorem ids_lt' [Cert.Pre_ids_in_range_row_zero.Facts] {F : FTy → Type} [FloatOps F] (a0 a1 a2 a3 a4 a5 a6 a7 a8 a9) (j)
    (h : Cert.Pre_ids_in_range_row_zero.fn (F := F) a0 a1 a2 a3 a4 a5 a6 a7 a8 a9 j = 1#1) (i) : (a0 i).toNat < 100000 := by
  dsimp only [Cert.Pre_ids_in_range_row_zero.fn] at h
  exact lt_of_and (Host.reduce_andi_all _ _ _ _ _ (IntOp.andi_eq_one.1 h).1 i)

/-- `ids_in_range_row_zero` true at the ideal instance: row 0 of the table is zero. -/
theorem row_zero [Cert.Pre_ids_in_range_row_zero.Facts] (a0 a1 a2 a3 a4 a5 a6 a7 a8 a9) (j)
    (h : Cert.Pre_ids_in_range_row_zero.fn (F := Ideal) a0 a1 a2 a3 a4 a5 a6 a7 a8 a9 j = 1#1)
    (i : Cert.Pre_ids_in_range_row_zero.S100000x128.Idx) (hi : (i 0).val = 0) : a1 i = (0 : EReal) := by
  dsimp only [Cert.Pre_ids_in_range_row_zero.fn] at h
  have e := Host.reduce_andi_all _ _ _ _ _ (IntOp.andi_eq_one.1 h).2 (ix1 (i 1))
  pointwise at e
  have hx : i = ix2 0 (i 1) := by
    funext d
    match d with
    | ⟨0, _⟩ => exact Fin.ext hi
    | ⟨1, _⟩ => rfl
  rw [hx]
  exact of_decide_eq_true (true_of_ofBool e)

end Cert.Proof.Pre

end
-- ==== Proof.Frames.lean ====
/-
  The frames of the kernel, at the bits and at the ideal instance: read off the run of all threads.
-/
module

public import proofs.«01_k».proof.Proof.Main
public import proofs.«01_k».proof.Proof.Ideal.Main
public import proofs.«01_k».proof.Proof.Pre

@[expose] public section

noncomputable section

namespace Cert.Proof

open Idealize.ShloMosaic Idealize.SL.Sem

/-- The first precondition of the kernel's arguments, as the kernel's run asks for it. -/
theorem preOK_bits [Cert.Pre_ids_in_range.Facts] {m} (h : Cert.Pre_Kernel m) : KLaunch.PreOK m :=
  fun d i => Pre.ids_lt _ _ _ _ _ _ _ _ _ _ (fun a => a.elim0) (congrFun (h d) _) i

/-- The same at the ideal instance. -/
theorem preOK_ideal [Cert.Pre_ids_in_range.Facts] {m} (h : Cert.Pre_KernelIdeal m) : ILaunch.PreOK m :=
  fun d i => Pre.ids_lt _ _ _ _ _ _ _ _ _ _ (fun a => a.elim0) (congrFun (h d) _) i

/-- The second precondition bounds the ids too. -/
theorem preOK_ideal' [Cert.Pre_ids_in_range_row_zero.Facts] {m} (h : Cert.Pre_KernelIdeal_ids_in_range_row_zero m) :
    ILaunch.PreOK m :=
  fun d i => Pre.ids_lt' _ _ _ _ _ _ _ _ _ _ (fun a => a.elim0) (congrFun (h d) _) i

/-- The kernel at the bits keeps its arguments and leaves every counter at zero. -/
theorem frame_kernel [Cert.Pre_ids_in_range.Facts] : Cert.quiescent_Kernel (hKernel := Cert.Kernel.Gen.facts) := by
  intro m g hpre
  refine (θ_run Cert.Kernel.defs _ _).mono (fun r h => ⟨fun c => ?_, h.2⟩) (KMain.run_main (F := Bits) m g (preOK_bits hpre))
  and_intros <;> exact (h.1 c _ rfl).trans (KMain.W6_arg m c _ (by decide))

/-- The kernel at the ideal instance keeps its arguments and leaves every counter at zero, when every id names a row. -/
theorem frame_of_ok {m} (g) (hok : ILaunch.PreOK m) :
    θ_run (Cert.KernelIdeal.defs (F := Ideal)) (Cert.KernelIdeal.threads (F := Ideal)) ⟨m, fun _ => 0, g⟩ fun r =>
      (∀ c : Dev Cert.KernelIdeal.nD, ∀ b : Ref Cert.KernelIdeal.sig .tc, b.isScoped = false →
        b ∉ [Cert.KernelIdeal.main_v0, Cert.KernelIdeal.main_v1, Cert.KernelIdeal.main_v2, Cert.KernelIdeal.main_v3,
          Cert.KernelIdeal.main_v4_0, Cert.KernelIdeal.main_v4_1, Cert.KernelIdeal.main_v5, Cert.KernelIdeal.main_v6,
          Cert.KernelIdeal.main_v7, Cert.KernelIdeal.main_v8] →
        r.2.mem ((c.tc : Thread Cert.KernelIdeal.nD Cert.KernelIdeal.τ).loc b) = m ((c.tc : Thread _ _).loc b)) ∧
      r.2.sem = fun _ => 0 :=
  (θ_run Cert.KernelIdeal.defs _ _).mono
    (fun r h => ⟨fun c b hb hn => (h.1 c b hb).trans (IMain.W6_arg m c b hn), h.2⟩) (IMain.run_main (F := Ideal) m g hok)

/-- The kernel's frame at the ideal instance under the first precondition. -/
theorem frame_ideal [Cert.Pre_ids_in_range.Facts] : Cert.quiescent_KernelIdeal (hKernelIdeal := Cert.KernelIdeal.Gen.facts) := by
  intro m g hpre
  refine (θ_run Cert.KernelIdeal.defs _ _).mono (fun r h => ⟨fun c => ?_, h.2⟩) (frame_of_ok g (preOK_ideal hpre))
  and_intros <;> exact h.1 c _ rfl (by decide)

/-- The kernel's frame at the ideal instance under the second precondition. -/
theorem frame_ideal' [Cert.Pre_ids_in_range_row_zero.Facts] :
    Cert.quiescent_KernelIdeal_pre_ids_in_range_row_zero (hKernelIdeal := Cert.KernelIdeal.Gen.facts) := by
  intro m g hpre
  refine (θ_run Cert.KernelIdeal.defs _ _).mono (fun r h => ⟨fun c => ?_, h.2⟩) (frame_of_ok g (preOK_ideal' hpre))
  and_intros <;> exact h.1 c _ rfl (by decide)

end Cert.Proof

end
-- ==== Proof.RefFrame.lean ====
/-
  The reference's frame: its host operations write neither an argument nor a semaphore counter.
-/
module

public import proofs.«01_k».proof.Defs
public import proofs.«01_k».proof.Proof.Gen.ReferenceIdeal
public import Idealize.ShloMosaic.Lib.Claim

@[expose] public section

noncomputable section

namespace Cert.Proof.Ref

open Idealize.ShloMosaic Idealize.SL.Sem

set_option maxHeartbeats 1000000 in
/-- The reference keeps its arguments and every counter at zero. -/
theorem frame [Cert.ReferenceIdeal.Facts] : Cert.quiescent_ReferenceIdeal := by
  intro m g _
  refine (θ_run Cert.ReferenceIdeal.defs _ _).mono
    (fun r h => ⟨h, sem_eq_zero_of_no_sems (sig := Cert.ReferenceIdeal.sig) (by decide) r.2⟩) ?_
  hlo_run

/-- The same on the arguments the second precondition admits. -/
theorem frame' [Cert.ReferenceIdeal.Facts] [Cert.Pre_ids_in_range_row_zero.Facts] :
    Cert.quiescent_ReferenceIdeal_pre_ids_in_range_row_zero :=
  fun m g _ => frame m g trivial

end Cert.Proof.Ref

end
-- ==== Proof.RefRun.lean ====
/-
  What the reference computes: its results as functions of its arguments, and its run with those results.
-/
module

public import proofs.«01_k».proof.Defs
public import proofs.«01_k».proof.Proof.Gen.ReferenceIdeal
public import Idealize.ShloMosaic.Lib.Claim

@[expose] public section

noncomputable section

namespace Cert.Proof.Ref

open Cert.ReferenceIdeal Idealize.ShloMosaic Idealize.SL.Sem
open Cert.ReferenceIdeal.Facts Cert.ReferenceIdeal.Facts₀

variable [Cert.ReferenceIdeal.Facts]

/-- The ids as the lookup reads them: a negative one counts from the end of the table. -/
def wrapped (ids : IVec S1024x50 32) : IVec S1024x50x1 32 :=
  broadcastInDim S1024x50x1 ![0, 1] bcast_S1024x50_S1024x50x1_0_1
    (select (cmpi .slt ids (broadcastInDim S1024x50 ![] bcast_S_S1024x50 (constantI S_ 32 0#32)))
      (addi ids (broadcastInDim S1024x50 ![] bcast_S_S1024x50 (constantI S_ 32 100000#32))) ids)

/-- Which of them name a row of the table. -/
def inTable (ids : IVec S1024x50 32) : IVec S1024x50 1 :=
  Host.reduce IntOp.andi
    (andi (cmpi .sge (wrapped ids) (broadcastInDim S1024x50x1 ![] bcast_S_S1024x50x1 (constantI S_ 32 0#32)))
      (cmpi .sle (wrapped ids) (broadcastInDim S1024x50x1 ![0, 1, 2] bcast_S1x1x1_S1024x50x1_0_1_2
        (broadcastInDim S1x1x1 ![2] bcast_S1_S1x1x1_2 (constantI S1 32 99999#32)))))
    (constantI S_ 1 1#1) reducesTo_S1024x50x1_S1024x50_d2 h_S_

/-- The rows looked up. -/
def looked (emb : FVec Ideal S100000x128 .f32) (ids : IVec S1024x50 32) : FVec Ideal S1024x50x128 .f32 :=
  select (broadcastInDim S1024x50x128 ![0, 1] bcast_S1024x50_S1024x50x128_0_1 (inTable ids))
    (Host.gather gather_S100000x128_S1024x50x1_S1024x50x128_2_0_n_n_0_2_1128 emb (wrapped ids))
    (broadcastInDim S1024x50x128 ![] bcast_S_S1024x50x128 (constant S_ .f32 0x7FC00000#32))

/-- The mask of the ids that are not 0, as numbers. -/
def mask (ids : IVec S1024x50 32) : FVec Ideal S1024x50x1 .f32 :=
  broadcastInDim S1024x50x1 ![0, 1] bcast_S1024x50_S1024x50x1_0_1
    (uitofp .f32 (cmpi .ne ids (broadcastInDim S1024x50 ![] bcast_S_S1024x50 (constantI S_ 32 0#32))))

/-- The masked mean of the rows looked up. -/
def mean (emb : FVec Ideal S100000x128 .f32) (ids : IVec S1024x50 32) : FVec Ideal S1024x128 .f32 :=
  Host.divf
    (Host.reduceAdd (mulf (looked emb ids) (broadcastInDim S1024x50x128 ![0, 1, 2] bcast_S1024x50x1_S1024x50x128_0_1_2 (mask ids)))
      (constant S_ .f32 0x00000000#32) reducesTo_S1024x50x128_S1024x128_d1 h_S_)
    (broadcastInDim S1024x128 ![0, 1] bcast_S1024x1_S1024x128_0_1
      (maximumf (broadcastInDim S1024x1 ![] bcast_S_S1024x1 (constant S_ .f32 0x3F800000#32))
        (Host.reduceAdd (mask ids) (constant S_ .f32 0x00000000#32) reducesTo_S1024x50x1_S1024x1_d1 h_S_)))

/-- The first hidden layer, of the pooled rows. -/
def layer1 (x : FVec Ideal S1024x128 .f32) (w : FVec Ideal S128x256 .f32) (b : FVec Ideal S256 .f32) : FVec Ideal S1024x256 .f32 :=
  maximumf (addf (Host.dotGeneral dot_S1024x128_S128x256_S1024x256_1_0_0_1_n_n none x w)
      (broadcastInDim S1024x256 ![0, 1] bcast_S1x256_S1024x256_0_1 (broadcastInDim S1x256 ![1] bcast_S256_S1x256_1 b)))
    (broadcastInDim S1024x256 ![] bcast_S_S1024x256 (constant S_ .f32 0x00000000#32))

/-- The second hidden layer, of the first. -/
def layer2 (x : FVec Ideal S1024x256 .f32) (w : FVec Ideal S256x256 .f32) (b : FVec Ideal S256 .f32) : FVec Ideal S1024x256 .f32 :=
  maximumf (addf (Host.dotGeneral dot_S1024x256_S256x256_S1024x256_1_0_0_1_n_n none x w)
      (broadcastInDim S1024x256 ![0, 1] bcast_S1x256_S1024x256_0_1 (broadcastInDim S1x256 ![1] bcast_S256_S1x256_1 b)))
    (broadcastInDim S1024x256 ![] bcast_S_S1024x256 (constant S_ .f32 0x00000000#32))

/-- The values, of the second hidden layer. -/
def valuesOf (h : FVec Ideal S1024x256 .f32) (w : FVec Ideal S256x1 .f32) (b : FVec Ideal S1 .f32) : FVec Ideal S1024 .f32 :=
  shapeCast S1024 (addf (Host.dotGeneral dot_S1024x256_S256x1_S1024x1_1_0_0_1_n_n none h w)
    (broadcastInDim S1024x1 ![0, 1] bcast_S1x1_S1024x1_0_1 (broadcastInDim S1x1 ![1] bcast_S1_S1x1_1 b))) shapeCasts_S1024x1_S1024

/-- The logits' first 99328 columns, of the second hidden layer. -/
def logitsOf (h : FVec Ideal S1024x256 .f32) (w : FVec Ideal S256x100000 .f32) (b : FVec Ideal S100000 .f32) : FVec Ideal S1024x99328 .f32 :=
  extractStridedSlice S1024x99328 ![0, 0]
    (addf (Host.dotGeneral dot_S1024x256_S256x100000_S1024x100000_1_0_0_1_n_n none h w)
      (broadcastInDim S1024x100000 ![0, 1] bcast_S1x100000_S1024x100000_0_1 (broadcastInDim S1x100000 ![1] bcast_S100000_S1x100000_1 b)))
    slices_S1024x100000_S1024x99328_0_0

/-- Both hidden layers, of the reference's arguments. -/
def hidden (ids : IVec S1024x50 32) (emb : FVec Ideal S100000x128 .f32) (w1 : FVec Ideal S128x256 .f32) (b1 : FVec Ideal S256 .f32)
    (w2 : FVec Ideal S256x256 .f32) (b2 : FVec Ideal S256 .f32) : FVec Ideal S1024x256 .f32 :=
  layer2 (layer1 (mean emb ids) w1 b1) w2 b2

set_option maxRecDepth 65536 in
set_option maxHeartbeats 2000000 in
/-- The reference's run: its results are `logitsOf` and `valuesOf` of the hidden layers, its arguments are unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v31)
          = logitsOf (hidden (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)))
            (m ((c.tc : Thread nD τ).loc main_arg8)) (m ((c.tc : Thread nD τ).loc main_arg9))
      ∧ r.2.mem ((c.tc : Thread nD τ).loc main_v26)
          = valuesOf (hidden (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5)))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  hlo_run
  all_goals first | rfl | (funext i; rfl)

end Cert.Proof.Ref

end
-- ==== Proof.Algebra.lean ====
/-
  The equation between the two sides at the ideal instance: the kernel's pooled sums, hidden layers, values and logits are
  the reference's, given that every id names a row of the table and that row 0 is zero.
-/
module

public import proofs.«01_k».proof.Proof.RefRun
public import proofs.«01_k».proof.Proof.Frames
public import Idealize.ShloMosaic.Lib.Pointwise
public import Idealize.ShloMosaic.Lib.ReduceAll

@[expose] public section

noncomputable section

namespace Cert.Proof.Alg

open Cert.Proof.Ref
open Idealize.ShloMosaic Idealize.SL.Sem

variable [Cert.ReferenceIdeal.Facts]

/-- The number 0 at the word 0, 1 at another word. -/
def ind (x : BitVec 32) : EReal := if x = 0#32 then 0 else 1

omit [Cert.ReferenceIdeal.Facts] in
/-- The comparison with 0 read as an unsigned number. -/
theorem ind_uint (x : BitVec 32) : FloatOps.uitofp (F := Ideal) FTy.f32 (IntOp.cmpi .ne x 0#32) = ind x := by
  show (((IntOp.cmpi .ne x 0#32).toNat : ℝ) : EReal) = ind x
  unfold ind IntOp.cmpi
  by_cases h : x = 0#32
  · simp [h]
  · simp [h]

omit [Cert.ReferenceIdeal.Facts] in
/-- The comparison with 0 widened and read as a signed number. -/
theorem ind_sint (x : BitVec 32) :
    FloatOps.sitofp (F := Ideal) FTy.f32 (BitVec.setWidth 32 (IntOp.cmpi .ne x 0#32)) = ind x := by
  show (((BitVec.setWidth 32 (IntOp.cmpi .ne x 0#32)).toInt : ℝ) : EReal) = ind x
  unfold ind
  by_cases h : x = 0#32
  · rw [if_pos h, h, show (BitVec.setWidth 32 (IntOp.cmpi .ne 0#32 0#32)).toInt = 0 by decide]
    norm_num
  · rw [if_neg h, show IntOp.cmpi .ne x 0#32 = 1#1 from
      congrArg BitVec.ofBool (bne_iff_ne.mpr h), show (BitVec.setWidth 32 1#1).toInt = 1 by decide]
    norm_num

/-- A word below 100000 is not negative. -/
theorem slt_zero {x : BitVec 32} (h : x.toNat < 100000) : IntOp.cmpi .slt x 0#32 = 0#1 := by
  simp only [IntOp.cmpi, BitVec.slt_eq_decide, BitVec.toInt_eq_toNat_cond, BitVec.toNat_ofNat, Nat.reducePow, Nat.reduceMod]
  rw [decide_eq_false (by omega)]
  rfl

/-- A word below 100000 is between 0 and 99999 as a signed number. -/
theorem between {x : BitVec 32} (h : x.toNat < 100000) : IntOp.andi (IntOp.cmpi .sge x 0#32) (IntOp.cmpi .sle x 99999#32) = 1#1 := by
  simp only [IntOp.cmpi, BitVec.sle_eq_decide, BitVec.toInt_eq_toNat_cond, BitVec.toNat_ofNat, Nat.reducePow, Nat.reduceMod]
  rw [decide_eq_true (by omega), decide_eq_true (by omega)]
  decide

variable {ids : IVec Cert.ReferenceIdeal.S1024x50 32} (hids : ∀ i, (ids i).toNat < 100000)
include hids

/-- No id is moved by the wrap. -/
theorem wrapped_apply (r : Fin 1024) (l : Fin 50) (c : Fin 1) : wrapped ids (ix3 r l c) = ids (ix2 r l) := by
  pointwise [wrapped]
  rw [slt_zero (hids _)]
  rfl

/-- Every id is in the table. -/
theorem inTable_apply (i) : inTable ids i = 1#1 := by
  unfold inTable
  refine Host.reduce_andi_one _ _ _ _ _ rfl fun j => ?_
  obtain ⟨r, l, c, rfl⟩ : ∃ (r : Fin 1024) (l : Fin 50) (c : Fin 1), j = ix3 r l c := by
    refine ⟨j 0, j 1, j 2, funext fun d => ?_⟩
    match d with
    | ⟨0, _⟩ => rfl
    | ⟨1, _⟩ => rfl
    | ⟨2, _⟩ => rfl
  show IntOp.andi (IntOp.cmpi .sge (wrapped ids (ix3 r l c)) 0#32) (IntOp.cmpi .sle (wrapped ids (ix3 r l c)) 99999#32) = 1#1
  rw [wrapped_apply hids]
  exact between (hids _)

omit hids in
/-- The lookup's dimension numbers. -/
abbrev G := Cert.ReferenceIdeal.gather_S100000x128_S1024x50x1_S1024x50x128_2_0_n_n_0_2_1128

omit hids in
/-- The gather of rows read at an index. -/
theorem gather_apply (emb : FVec Ideal Cert.ReferenceIdeal.S100000x128 .f32) (idx : IVec Cert.ReferenceIdeal.S1024x50x1 32)
    (r : Fin 1024) (l : Fin 50) (c : Fin 128) :
    Host.gather G emb idx (ix3 r l c)
      = emb (ix2 (⟨min (idx (ix3 r l 0)).toInt.toNat 99999, by omega⟩ : Fin 100000) c) := by
  unfold Host.gather
  refine congrArg emb (funext fun a => Fin.ext ?_)
  show GatherDims.start _ _ _ _ + GatherDims.batchCoord _ _ _ + GatherDims.offCoord _ _ _ = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (show (0 : Fin 2) ∈ G.startIndexMap from List.mem_singleton.mpr rfl)).trans ?_
    refine congrArg (fun q => min (idx q).toInt.toNat 99999) (funext fun b => Fin.ext ?_)
    match b with
    | ⟨0, _⟩ => rfl
    | ⟨1, _⟩ => rfl
    | ⟨2, _⟩ => rfl
  | ⟨1, h1⟩ =>
    have hm : (1 : Fin 2) ∉ G.startIndexMap := show (1 : Fin 2) ∉ [(0 : Fin 2)] by decide
    have hk : (1 : Fin 2) ∈ G.sKept := (GatherDims.mem_sKept _ _).mpr ⟨hm, List.not_mem_nil⟩
    unfold GatherDims.start GatherDims.offCoord
    refine (congrArg₂ (· + ·) (dif_neg hm) (dif_pos hk)).trans ?_
    exact Nat.zero_add _

omit hids in
/-- The mask is 0 at id 0, 1 elsewhere. -/
theorem mask_apply (r : Fin 1024) (l : Fin 50) (c : Fin 1) : mask ids (ix3 r l c) = ind (ids (ix2 r l)) := by
  pointwise [mask]
  exact ind_uint _

omit [Cert.ReferenceIdeal.Facts]
omit hids

/-- The subcore's running sum is the sum over the numbers below `n`. -/
theorem sumTo_eq (f : ℕ → EReal) (n : ℕ) : ITile.sumTo (F := Ideal) f n = ∑ l : Fin n, f l := by
  induction n with
  | zero => exact Ideal.ofBits_zero_f32
  | succ n ih => rw [Fin.sum_univ_castSucc, ITile.sumTo, ih]; rfl

/-- The kernel's pooled row as a sum of fifty elements of the table. -/
theorem poolF_apply (E : FVec Ideal Cert.KernelIdeal.S100000x128 .f32) (I : IVec Cert.KernelIdeal.S1024x50 32) (r : Fin 1024) (c : Fin 128) :
    ITile.poolF (F := Ideal) E I (ix2 r c) = ∑ l : Fin 50, ITile.tabAt (F := Ideal) E (ITile.idsAt I r.val l.val) c.val :=
  sumTo_eq _ _

variable [Cert.ReferenceIdeal.Facts]

include hids in
/-- A row looked up is the table's row at the id. -/
theorem looked_apply (emb : FVec Ideal Cert.ReferenceIdeal.S100000x128 .f32) (r : Fin 1024) (l : Fin 50) (c : Fin 128) :
    looked emb ids (ix3 r l c) = emb (ix2 (⟨(ids (ix2 r l)).toNat, hids _⟩ : Fin 100000) c) := by
  have h := hids (ix2 r l)
  pointwise [looked]
  rw [inTable_apply hids]
  refine (gather_apply emb (wrapped ids) r l c).trans ?_
  refine congrArg emb (congrArg (fun a => ix2 a c) (Fin.ext ?_))
  show min (wrapped ids (ix3 r l 0)).toInt.toNat 99999 = _
  rw [wrapped_apply hids, BitVec.toInt_eq_toNat_cond, if_pos (by omega)]
  show min (ids (ix2 r l)).toNat 99999 = (ids (ix2 r l)).toNat
  omega

include hids in
/-- Where row 0 of the table is zero, a masked row looked up is the table's row: the mask leaves out only row 0. -/
theorem masked (emb : FVec Ideal Cert.ReferenceIdeal.S100000x128 .f32) (h0 : ∀ c : Fin 128, emb (ix2 (0 : Fin 100000) c) = (0 : EReal))
    (r : Fin 1024) (l : Fin 50) (c : Fin 128) :
    looked emb ids (ix3 r l c) * mask ids (ix3 r l 0) = ITile.tabAt (F := Ideal) emb (ITile.idsAt ids r.val l.val) c.val := by
  rw [looked_apply hids, mask_apply]
  unfold ITile.idsAt ITile.tabAt
  simp only [r.isLt, l.isLt, c.isLt, hids, and_self, dite_true, Fin.eta]
  unfold ind
  by_cases h : ids (ix2 r l) = 0#32
  · have e : (⟨(ids (ix2 r l)).toNat, hids _⟩ : Fin 100000) = 0 := Fin.ext (show (ids (ix2 r l)).toNat = 0 by rw [h]; rfl)
    rw [if_pos h]
    show emb _ * (0 : EReal) = emb (ix2 (⟨(ids (ix2 r l)).toNat, hids _⟩ : Fin 100000) c)
    rw [mul_zero, e, h0]
  · rw [if_neg h]
    exact mul_one _

include hids in
/-- The reference's mean is the kernel's quotient. -/
theorem mean_apply (emb : FVec Ideal Cert.ReferenceIdeal.S100000x128 .f32) (h0 : ∀ c : Fin 128, emb (ix2 (0 : Fin 100000) c) = (0 : EReal))
    (r : Fin 1024) (c : Fin 128) :
    mean emb ids (ix2 r c) = Ideal.div (ITile.poolF (F := Ideal) emb ids (ix2 r c)) (max (∑ l : Fin 50, ind (ids (ix2 r l))) 1) := by
  pointwise [mean]
  simp only [masked hids emb h0, ← poolF_apply]
  simp only [mask_apply]
  rw [max_comm]

/-- A hidden layer at an index. -/
theorem layer1_apply (x : FVec Ideal Cert.ReferenceIdeal.S1024x128 .f32) (w : FVec Ideal Cert.ReferenceIdeal.S128x256 .f32)
    (b : FVec Ideal Cert.ReferenceIdeal.S256 .f32) (r : Fin 1024) (c : Fin 256) :
    layer1 x w b (ix2 r c) = max ((∑ k : Fin 128, x (ix2 r k) * w (ix2 k c)) + b (ix1 c)) 0 := by
  pointwise [layer1]

/-- The other hidden layer at an index. -/
theorem layer2_apply (x : FVec Ideal Cert.ReferenceIdeal.S1024x256 .f32) (w : FVec Ideal Cert.ReferenceIdeal.S256x256 .f32)
    (b : FVec Ideal Cert.ReferenceIdeal.S256 .f32) (r : Fin 1024) (c : Fin 256) :
    layer2 x w b (ix2 r c) = max ((∑ k : Fin 256, x (ix2 r k) * w (ix2 k c)) + b (ix1 c)) 0 := by
  pointwise [layer2]

include hids in
/-- The head's hidden layers are the reference's. -/
theorem hidden_eq (emb : FVec Ideal Cert.ReferenceIdeal.S100000x128 .f32) (h0 : ∀ c : Fin 128, emb (ix2 (0 : Fin 100000) c) = (0 : EReal))
    (w1 : FVec Ideal Cert.ReferenceIdeal.S128x256 .f32) (b1 : FVec Ideal Cert.ReferenceIdeal.S256 .f32)
    (w2 : FVec Ideal Cert.ReferenceIdeal.S256x256 .f32) (b2 : FVec Ideal Cert.ReferenceIdeal.S256 .f32)
    (b1' b2' : FVec Ideal Cert.KernelIdeal.S1x256 .f32) (h1 : ∀ c : Fin 256, b1' (ix2 (0 : Fin 1) c) = b1 (ix1 c))
    (h2 : ∀ c : Fin 256, b2' (ix2 (0 : Fin 1) c) = b2 (ix1 c)) :
    Ref.hidden ids emb w1 b1 w2 b2
      = Cert.KernelIdeal.Gen.k1_pay2 (F := Ideal) ids (ITile.poolF (F := Ideal) emb ids) w1 b1' w2 b2' := by
  funext i
  obtain ⟨r, c, rfl⟩ : ∃ (r : Fin 1024) (c : Fin 256), i = ix2 r c :=
    ⟨i 0, i 1, funext fun d => match d with | ⟨0, _⟩ => rfl | ⟨1, _⟩ => rfl⟩
  unfold Ref.hidden
  rw [layer2_apply]
  simp only [layer1_apply, mean_apply hids emb h0]
  pointwise [Cert.KernelIdeal.Gen.k1_pay2]
  simp only [h1, h2, ind_sint]

/-- A vector reshaped to one row of 256. -/
theorem row256 (f : FVec Ideal Cert.KernelIdeal.S256 .f32) (c : Fin 256) :
    shapeCast Cert.KernelIdeal.S1x256 f Cert.KernelIdeal.Gen.facts.shapeCasts_S256_S1x256 (ix2 (0 : Fin 1) c) = f (ix1 c) := by
  pointwise []

/-- One number reshaped. -/
theorem row1 (f : FVec Ideal Cert.KernelIdeal.S1 .f32) :
    shapeCast Cert.KernelIdeal.S1x1 f Cert.KernelIdeal.Gen.facts.shapeCasts_S1_S1x1 (ix2 (0 : Fin 1) (0 : Fin 1)) = f (ix1 (0 : Fin 1)) := by
  pointwise []

/-- The values at an index. -/
theorem valuesOf_apply (h : FVec Ideal Cert.ReferenceIdeal.S1024x256 .f32) (w : FVec Ideal Cert.ReferenceIdeal.S256x1 .f32)
    (b : FVec Ideal Cert.ReferenceIdeal.S1 .f32) (r : Fin 1024) :
    valuesOf h w b (ix1 r) = (∑ k : Fin 256, h (ix2 r k) * w (ix2 k (0 : Fin 1))) + b (ix1 (0 : Fin 1)) := by
  pointwise [valuesOf]

/-- The logits at an index. -/
theorem logitsOf_apply (h : FVec Ideal Cert.ReferenceIdeal.S1024x256 .f32) (w : FVec Ideal Cert.ReferenceIdeal.S256x100000 .f32)
    (b : FVec Ideal Cert.ReferenceIdeal.S100000 .f32) (r : Fin 1024) (c : Fin 99328) :
    logitsOf h w b (ix2 r c) = (∑ k : Fin 256, h (ix2 r k) * w (ix2 k (⟨c.val, by omega⟩ : Fin 100000))) + b (ix1 (⟨c.val, by omega⟩ : Fin 100000)) := by
  pointwise [logitsOf]

/-- A tile of the logits at an index. -/
theorem tile_apply (h : FVec Ideal Cert.KernelIdeal.S1024x256 .f32) (w : FVec Ideal Cert.KernelIdeal.S256x1024 .f32)
    (b : FVec Ideal Cert.KernelIdeal.S1x1024 .f32) (r : Fin 1024) (c : Fin 1024) :
    Cert.KernelIdeal.Gen.k2_pay2 (F := Ideal) h w b (ix2 r c) = (∑ k : Fin 256, h (ix2 r k) * w (ix2 k c)) + b (ix2 (0 : Fin 1) c) := by
  pointwise [Cert.KernelIdeal.Gen.k2_pay2, Cert.KernelIdeal.Gen.k2_pay1]

/-- The kernel's values are the reference's, of the same hidden layers. -/
theorem values_eq (p : FVec Ideal Cert.KernelIdeal.S1024x128 .f32) (w1 : FVec Ideal Cert.KernelIdeal.S128x256 .f32)
    (b1 : FVec Ideal Cert.KernelIdeal.S1x256 .f32) (w2 : FVec Ideal Cert.KernelIdeal.S256x256 .f32) (b2 : FVec Ideal Cert.KernelIdeal.S1x256 .f32)
    (w : FVec Ideal Cert.KernelIdeal.S256x1 .f32) (b : FVec Ideal Cert.KernelIdeal.S1 .f32) :
    (fun i => shapeCast Cert.KernelIdeal.S1024 (Cert.KernelIdeal.Gen.k1_pay1 (Cert.KernelIdeal.Gen.k1_pay3 (F := Ideal) ids p w1 b1 w2 b2 w)
        (fun j => shapeCast Cert.KernelIdeal.S1x1 b Cert.KernelIdeal.Gen.facts.shapeCasts_S1_S1x1 j)) Cert.KernelIdeal.Gen.facts.shapeCasts_S1024x1_S1024 i)
      = valuesOf (Cert.KernelIdeal.Gen.k1_pay2 (F := Ideal) ids p w1 b1 w2 b2) w b := by
  funext i
  obtain ⟨r, rfl⟩ : ∃ r : Fin 1024, i = ix1 r := ⟨i 0, funext fun d => match d with | ⟨0, _⟩ => rfl⟩
  rw [valuesOf_apply, ← row1 b]
  pointwise [Cert.KernelIdeal.Gen.k1_pay1, Cert.KernelIdeal.Gen.k1_pay3]

/-- The kernel's logits in the first 99328 columns are the reference's, of the same hidden layers. -/
theorem logits_eq (h : FVec Ideal Cert.KernelIdeal.S1024x256 .f32) (w : FVec Ideal Cert.KernelIdeal.S256x100000 .f32)
    (b : FVec Ideal Cert.KernelIdeal.S100000 .f32) (f0 : FVec Ideal Cert.KernelIdeal.S1024x100096 .f32) :
    extractStridedSlice Cert.KernelIdeal.S1024x99328 ![0, 0] (ILogits.logitsF (F := Ideal) h w
        (fun j => shapeCast Cert.KernelIdeal.S1x100000 b Cert.KernelIdeal.Gen.facts.shapeCasts_S100000_S1x100000 j) f0)
        Cert.KernelIdeal.Gen.facts.slices_S1024x100096_S1024x99328_0_0
      = logitsOf h w b := by
  funext i
  obtain ⟨r, c, rfl⟩ : ∃ (r : Fin 1024) (c : Fin 99328), i = ix2 r c :=
    ⟨i 0, i 1, funext fun d => match d with | ⟨0, _⟩ => rfl | ⟨1, _⟩ => rfl⟩
  rw [logitsOf_apply]
  pointwise []
  have hc : c.val / 1024 < 97 := by omega
  have hn : 1024 * (c.val / 1024) + c.val % 1024 = c.val := by omega
  show (if hi : c.val / 1024 < 97 then _ else _) = _
  rw [dif_pos hc]
  refine (tile_apply h _ _ r _).trans ?_
  have key : ∀ n : Fin 100000, n.val = c.val →
      (∑ k : Fin 256, h (ix2 r k) * w (ix2 k n)) + b (ix1 n)
        = (∑ k : Fin 256, h (ix2 r k) * w (ix2 k (⟨c.val, by omega⟩ : Fin 100000))) + b (ix1 (⟨c.val, by omega⟩ : Fin 100000)) := by
    intro n e
    rw [show n = ⟨c.val, by omega⟩ from Fin.ext e]
  exact key ⟨1024 * (c.val / 1024) + c.val % 1024, by omega⟩ hn

/-- From memories agreeing on the arguments, the kernel's run and the reference's end with equal results. -/
theorem algebraic [Cert.Pre_ids_in_range_row_zero.Facts] :
    Cert.algebraic_KernelIdeal_ReferenceIdeal_pre_ids_in_range_row_zero (hKernelIdeal := Cert.KernelIdeal.Gen.facts) := by
  intro m g m' g' hpre hagree
  have hok := preOK_ideal' hpre
  refine ⟨fun c => IMain.W6 m c (Proc.devRef .tc Cert.KernelIdeal.main_v7), fun c => IMain.W6 m c (Proc.devRef .tc Cert.KernelIdeal.main_v8), ?_, ?_⟩
  · refine (θ_run Cert.KernelIdeal.defs _ _).mono (fun r h c => ?_) (IMain.run_main (F := Ideal) m g hok)
    refine ⟨h.1 c _ rfl, h.1 c _ rfl, ?_⟩
    and_intros <;> exact (h.1 c _ rfl).trans (IMain.W6_arg m c _ (by decide))
  · refine (θ_run Cert.ReferenceIdeal.defs _ _).mono (fun r h c => ?_) (Ref.run m' g')
    obtain ⟨h31, h26, hargs⟩ := h c
    obtain ⟨a0, a1, a2, a3, a4, a5, a6, a7, a8, a9⟩ := hagree c
    have hh := hidden_eq (hok c) (m ((c.tc : Thread Cert.KernelIdeal.nD Cert.KernelIdeal.τ).loc Cert.KernelIdeal.main_arg1))
      (fun k => Pre.row_zero _ _ _ _ _ _ _ _ _ _ (fun a => a.elim0) (congrFun (hpre c) _) (ix2 (0 : Fin 100000) k) rfl)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (IMain.b1 m c) (IMain.b2 m c) (row256 _) (row256 _)
    rw [a0, a1, a2, a3, a4, a5] at h31 h26
    rw [hh] at h31 h26
    rw [a8, a9] at h31
    rw [a6, a7] at h26
    obtain ⟨f0, e7⟩ := IMain.W6_v7 m c
    refine ⟨h31.trans ?_, h26.trans ?_, hargs⟩
    · exact ((e7).trans (logits_eq _ _ _ f0)).symm
    · exact ((IMain.W6_v8 m c).trans (values_eq _ _ _ _ _ _ _)).symm

end Cert.Proof.Alg

end
-- ==== Proof.lean ====
module

public import proofs.«01_k».proof.Defs
public import proofs.«01_k».proof.Proof.Frames
public import proofs.«01_k».proof.Proof.RefFrame
public import proofs.«01_k».proof.Proof.Algebra

@[expose] public section

noncomputable section

namespace Cert.Proof

/-- Every claim of this certificate. -/
theorem claim : Cert.Claim :=
  letI := Cert.Pre_ids_in_range.Gen.facts
  letI := Cert.Pre_ids_in_range_row_zero.Gen.facts
  letI := Cert.ReferenceIdeal.Gen.facts
  ⟨Cert.Kernel.Gen.facts, Cert.KernelIdeal.Gen.facts, Cert.ReferenceIdeal.Gen.facts, Cert.Pre_ids_in_range.Gen.facts,
    Cert.Pre_ids_in_range_row_zero.Gen.facts, frame_kernel, frame_ideal, frame_ideal', Ref.frame, Ref.frame', trivial, Alg.algebraic⟩

end Cert.Proof

end
